-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![32, 2048, 1024]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x1024 : Shape := ⟨3, ![1, 2048, 1024]⟩
abbrev S2048x1024 : Shape := ⟨2, ![2048, 1024]⟩
abbrev S1024x1024 : Shape := ⟨2, ![1024, 1024]⟩
abbrev S3x256x1024 : Shape := ⟨3, ![3, 256, 1024]⟩
abbrev S3x64x1024 : Shape := ⟨3, ![3, 64, 1024]⟩
abbrev S_ : Shape := ⟨0, ![]⟩
abbrev S14 : Shape := ⟨1, ![14]⟩
abbrev S1 : Shape := ⟨1, ![1]⟩
abbrev S1x256x1024 : Shape := ⟨3, ![1, 256, 1024]⟩
abbrev S256x1024 : Shape := ⟨2, ![256, 1024]⟩
abbrev S1x64x1024 : Shape := ⟨3, ![1, 64, 1024]⟩
abbrev S64x1024 : Shape := ⟨2, ![64, 1024]⟩

abbrev nBuf : Space → Nat
  | .hbm => 2
  | .vmem => 5
  | .smem => 0
  | _ => 0

abbrev bufTy : (tb : Table) → Fin (tcTables nBuf tb) → BufTy
  | .hbm, ⟨0, _⟩ => ⟨S1x2048x1024, .f32⟩
  | .hbm, ⟨1, _⟩ => ⟨S2048x1024, .f32⟩
  | .local _ .vmem, ⟨0, _⟩ => ⟨S1x2048x1024, .f32⟩
  | .local _ .vmem, ⟨1, _⟩ => ⟨S2048x1024, .f32⟩
  | .local _ .vmem, ⟨2, _⟩ => ⟨S1024x1024, .f32⟩
  | .local _ .vmem, ⟨3, _⟩ => ⟨S3x256x1024, .f32⟩
  | .local _ .vmem, ⟨4, _⟩ => ⟨S3x64x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_50 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_17 : BitVec 32 := 8#32
  let v44 : BitVec 32 := Scalar.muli v19 c8_i32_17
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_18 : BitVec 32 := 2#32
  let v45 : BitVec 32 := Scalar.muli v37 c2_i32_18
  let v46 : BitVec 32 := Scalar.addi v44 v45
  let c2_i32_19 : BitVec 32 := 2#32
  let v47 : BitVec 32 := Scalar.remsi v37 c2_i32_19
  let c0_i32_20 : BitVec 32 := 0#32
  let v48 : BitVec 1 := Scalar.cmpi .eq v47 c0_i32_20
  let c1_i32_16 : BitVec 32 := 1#32
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let v43 : BitVec 32 := Scalar.subi c1_i32_16 v42
  let c1_i32_21 : BitVec 32 := 1#32
  let v49 : BitVec 32 := Scalar.subi c1_i32_21 v43
  let v50 : BitVec 32 := Scalar.select v48 v43 v49
  let v51 : BitVec 32 := Scalar.addi v46 v50
  let c1_i32_49 : BitVec 32 := 1#32
  let v93 : BitVec 32 := Scalar.muli v51 c1_i32_49
  let v94 : BitVec 32 := Scalar.addi c0_i32_50 v93
  v94.toNat
def k0_dev2 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v74 : BitVec 32 := Scalar.muli v19 c8_i32_36
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v72 : BitVec 32 := Scalar.addi v37 c3_i32
  let c4_i32_35 : BitVec 32 := 4#32
  let v73 : BitVec 32 := Scalar.remsi v72 c4_i32_35
  let c2_i32_37 : BitVec 32 := 2#32
  let v75 : BitVec 32 := Scalar.muli v73 c2_i32_37
  let v76 : BitVec 32 := Scalar.addi v74 v75
  let c2_i32_38 : BitVec 32 := 2#32
  let v77 : BitVec 32 := Scalar.remsi v73 c2_i32_38
  let c0_i32_39 : BitVec 32 := 0#32
  let v78 : BitVec 1 := Scalar.cmpi .eq v77 c0_i32_39
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c1_i32_40 : BitVec 32 := 1#32
  let v79 : BitVec 32 := Scalar.subi c1_i32_40 v42
  let v80 : BitVec 32 := Scalar.select v78 v42 v79
  let v81 : BitVec 32 := Scalar.addi v76 v80
  let c1_i32_52 : BitVec 32 := 1#32
  let v95 : BitVec 32 := Scalar.muli v81 c1_i32_52
  let v96 : BitVec 32 := Scalar.addi c0_i32_53 v95
  v96.toNat
def k0_dev3 (d0 : Dev nD) : Nat :=
  let c0_i32_56 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_41 : BitVec 32 := 3#32
  let v82 : BitVec 32 := Scalar.addi v19 c3_i32_41
  let c4_i32_42 : BitVec 32 := 4#32
  let v83 : BitVec 32 := Scalar.remsi v82 c4_i32_42
  let c8_i32_43 : BitVec 32 := 8#32
  let v84 : BitVec 32 := Scalar.muli v83 c8_i32_43
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_44 : BitVec 32 := 2#32
  let v85 : BitVec 32 := Scalar.muli v37 c2_i32_44
  let v86 : BitVec 32 := Scalar.addi v84 v85
  let c2_i32_45 : BitVec 32 := 2#32
  let v87 : BitVec 32 := Scalar.remsi v37 c2_i32_45
  let c0_i32_46 : BitVec 32 := 0#32
  let v88 : BitVec 1 := Scalar.cmpi .eq v87 c0_i32_46
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c1_i32_47 : BitVec 32 := 1#32
  let v89 : BitVec 32 := Scalar.subi c1_i32_47 v42
  let v90 : BitVec 32 := Scalar.select v88 v42 v89
  let v91 : BitVec 32 := Scalar.addi v86 v90
  let c1_i32_55 : BitVec 32 := 1#32
  let v97 : BitVec 32 := Scalar.muli v91 c1_i32_55
  let v98 : BitVec 32 := Scalar.addi c0_i32_56 v97
  v98.toNat
def k0_off1 (d0 : Dev nD) : Fin 2 → Nat :=
  let c1_i32_62 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let v105 : BitVec 32 := Scalar.subi c1_i32_62 v42
  let c1024_i32_63 : BitVec 32 := 1024#32
  let v106 : BitVec 32 := Scalar.muli v105 c1024_i32_63
  let c0_i32_67 : BitVec 32 := 0#32
  ![v106.toNat, 0]
def k0_dev4 (d0 : Dev nD) : Nat :=
  let c0_i32_66 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_17 : BitVec 32 := 8#32
  let v44 : BitVec 32 := Scalar.muli v19 c8_i32_17
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_18 : BitVec 32 := 2#32
  let v45 : BitVec 32 := Scalar.muli v37 c2_i32_18
  let v46 : BitVec 32 := Scalar.addi v44 v45
  let c2_i32_19 : BitVec 32 := 2#32
  let v47 : BitVec 32 := Scalar.remsi v37 c2_i32_19
  let c0_i32_20 : BitVec 32 := 0#32
  let v48 : BitVec 1 := Scalar.cmpi .eq v47 c0_i32_20
  let c1_i32_16 : BitVec 32 := 1#32
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let v43 : BitVec 32 := Scalar.subi c1_i32_16 v42
  let c1_i32_21 : BitVec 32 := 1#32
  let v49 : BitVec 32 := Scalar.subi c1_i32_21 v43
  let v50 : BitVec 32 := Scalar.select v48 v43 v49
  let v51 : BitVec 32 := Scalar.addi v46 v50
  let c1_i32_65 : BitVec 32 := 1#32
  let v107 : BitVec 32 := Scalar.muli v51 c1_i32_65
  let v108 : BitVec 32 := Scalar.addi c0_i32_66 v107
  v108.toNat
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c1024_i32 : BitVec 32 := 1024#32
  let v99 : BitVec 32 := Scalar.muli v42 c1024_i32
  let v118 : Index := Scalar.indexCast v99
  let c0_75 : Index := 0#32
  ![v118.toNat, 0]
def k0_off3 (d0 : Dev nD) (c0_i32_79 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c1024_i32 : BitVec 32 := 1024#32
  let v99 : BitVec 32 := Scalar.muli v42 c1024_i32
  let v125 : BitVec 32 := Scalar.subi v37 c0_i32_79
  let c1_i32_80 : BitVec 32 := 1#32
  let v126 : BitVec 32 := Scalar.subi v125 c1_i32_80
  let c8_i32_81 : BitVec 32 := 8#32
  let v127 : BitVec 32 := Scalar.addi v126 c8_i32_81
  let c4_i32_82 : BitVec 32 := 4#32
  let v128 : BitVec 32 := Scalar.remsi v127 c4_i32_82
  let c256_i32_87 : BitVec 32 := 256#32
  let v133 : BitVec 32 := Scalar.muli v128 c256_i32_87
  let v134 : BitVec 32 := Scalar.addi v99 v133
  let c0_i32_95 : BitVec 32 := 0#32
  ![v134.toNat, 0]
def k0_dev5 (d0 : Dev nD) : Nat :=
  let c0_i32_92 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v54 : BitVec 32 := Scalar.muli v19 c8_i32_23
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_22 : BitVec 32 := 1#32
  let v52 : BitVec 32 := Scalar.addi v37 c1_i32_22
  let c4_i32 : BitVec 32 := 4#32
  let v53 : BitVec 32 := Scalar.remsi v52 c4_i32
  let c2_i32_24 : BitVec 32 := 2#32
  let v55 : BitVec 32 := Scalar.muli v53 c2_i32_24
  let v56 : BitVec 32 := Scalar.addi v54 v55
  let c2_i32_25 : BitVec 32 := 2#32
  let v57 : BitVec 32 := Scalar.remsi v53 c2_i32_25
  let c0_i32_26 : BitVec 32 := 0#32
  let v58 : BitVec 1 := Scalar.cmpi .eq v57 c0_i32_26
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c1_i32_27 : BitVec 32 := 1#32
  let v59 : BitVec 32 := Scalar.subi c1_i32_27 v42
  let v60 : BitVec 32 := Scalar.select v58 v42 v59
  let v61 : BitVec 32 := Scalar.addi v56 v60
  let c1_i32_91 : BitVec 32 := 1#32
  let v137 : BitVec 32 := Scalar.muli v61 c1_i32_91
  let v138 : BitVec 32 := Scalar.addi c0_i32_92 v137
  v138.toNat
def k0_off4 (d0 : Dev nD) (c0_i32_83 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c1024_i32 : BitVec 32 := 1024#32
  let v99 : BitVec 32 := Scalar.muli v42 c1024_i32
  let v129 : BitVec 32 := Scalar.subi v37 c0_i32_83
  let c2_i32_84 : BitVec 32 := 2#32
  let v130 : BitVec 32 := Scalar.subi v129 c2_i32_84
  let c8_i32_85 : BitVec 32 := 8#32
  let v131 : BitVec 32 := Scalar.addi v130 c8_i32_85
  let c4_i32_86 : BitVec 32 := 4#32
  let v132 : BitVec 32 := Scalar.remsi v131 c4_i32_86
  let c256_i32_88 : BitVec 32 := 256#32
  let v135 : BitVec 32 := Scalar.muli v132 c256_i32_88
  let v136 : BitVec 32 := Scalar.addi v99 v135
  let v154 : Index := Scalar.indexCast v136
  let c0_109 : Index := 0#32
  ![v154.toNat, 0]
def k0_dev6 (d0 : Dev nD) : Nat :=
  let c0_i32_127 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v54 : BitVec 32 := Scalar.muli v19 c8_i32_23
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_22 : BitVec 32 := 1#32
  let v52 : BitVec 32 := Scalar.addi v37 c1_i32_22
  let c4_i32 : BitVec 32 := 4#32
  let v53 : BitVec 32 := Scalar.remsi v52 c4_i32
  let c2_i32_24 : BitVec 32 := 2#32
  let v55 : BitVec 32 := Scalar.muli v53 c2_i32_24
  let v56 : BitVec 32 := Scalar.addi v54 v55
  let c2_i32_25 : BitVec 32 := 2#32
  let v57 : BitVec 32 := Scalar.remsi v53 c2_i32_25
  let c0_i32_26 : BitVec 32 := 0#32
  let v58 : BitVec 1 := Scalar.cmpi .eq v57 c0_i32_26
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c1_i32_27 : BitVec 32 := 1#32
  let v59 : BitVec 32 := Scalar.subi c1_i32_27 v42
  let v60 : BitVec 32 := Scalar.select v58 v42 v59
  let v61 : BitVec 32 := Scalar.addi v56 v60
  let c1_i32_126 : BitVec 32 := 1#32
  let v174 : BitVec 32 := Scalar.muli v61 c1_i32_126
  let v175 : BitVec 32 := Scalar.addi c0_i32_127 v174
  v175.toNat
def k0_dev7 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v54 : BitVec 32 := Scalar.muli v19 c8_i32_23
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_22 : BitVec 32 := 1#32
  let v52 : BitVec 32 := Scalar.addi v37 c1_i32_22
  let c4_i32 : BitVec 32 := 4#32
  let v53 : BitVec 32 := Scalar.remsi v52 c4_i32
  let c2_i32_24 : BitVec 32 := 2#32
  let v55 : BitVec 32 := Scalar.muli v53 c2_i32_24
  let v56 : BitVec 32 := Scalar.addi v54 v55
  let c2_i32_25 : BitVec 32 := 2#32
  let v57 : BitVec 32 := Scalar.remsi v53 c2_i32_25
  let c0_i32_26 : BitVec 32 := 0#32
  let v58 : BitVec 1 := Scalar.cmpi .eq v57 c0_i32_26
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c1_i32_27 : BitVec 32 := 1#32
  let v59 : BitVec 32 := Scalar.subi c1_i32_27 v42
  let v60 : BitVec 32 := Scalar.select v58 v42 v59
  let v61 : BitVec 32 := Scalar.addi v56 v60
  let c1_i32_160 : BitVec 32 := 1#32
  let v211 : BitVec 32 := Scalar.muli v61 c1_i32_160
  let v212 : BitVec 32 := Scalar.addi c0_i32_161 v211
  v212.toNat
def k0_off5 (d0 : Dev nD) (c0_i32_182 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c1024_i32 : BitVec 32 := 1024#32
  let v99 : BitVec 32 := Scalar.muli v42 c1024_i32
  let c256_i32 : BitVec 32 := 256#32
  let v100 : BitVec 32 := Scalar.muli v37 c256_i32
  let v101 : BitVec 32 := Scalar.addi v99 v100
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v236 : BitVec 32 := Scalar.subi v19 c0_i32_182
  let c1_i32_183 : BitVec 32 := 1#32
  let v237 : BitVec 32 := Scalar.subi v236 c1_i32_183
  let c8_i32_184 : BitVec 32 := 8#32
  let v238 : BitVec 32 := Scalar.addi v237 c8_i32_184
  let c4_i32_185 : BitVec 32 := 4#32
  let v239 : BitVec 32 := Scalar.remsi v238 c4_i32_185
  let c64_i32 : BitVec 32 := 64#32
  let v244 : BitVec 32 := Scalar.muli v239 c64_i32
  let v245 : BitVec 32 := Scalar.addi v101 v244
  let c0_i32_197 : BitVec 32 := 0#32
  ![v245.toNat, 0]
def k0_dev8 (d0 : Dev nD) : Nat :=
  let c0_i32_194 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v62 : BitVec 32 := Scalar.addi v19 c1_i32_28
  let c4_i32_29 : BitVec 32 := 4#32
  let v63 : BitVec 32 := Scalar.remsi v62 c4_i32_29
  let c8_i32_30 : BitVec 32 := 8#32
  let v64 : BitVec 32 := Scalar.muli v63 c8_i32_30
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_31 : BitVec 32 := 2#32
  let v65 : BitVec 32 := Scalar.muli v37 c2_i32_31
  let v66 : BitVec 32 := Scalar.addi v64 v65
  let c2_i32_32 : BitVec 32 := 2#32
  let v67 : BitVec 32 := Scalar.remsi v37 c2_i32_32
  let c0_i32_33 : BitVec 32 := 0#32
  let v68 : BitVec 1 := Scalar.cmpi .eq v67 c0_i32_33
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c1_i32_34 : BitVec 32 := 1#32
  let v69 : BitVec 32 := Scalar.subi c1_i32_34 v42
  let v70 : BitVec 32 := Scalar.select v68 v42 v69
  let v71 : BitVec 32 := Scalar.addi v66 v70
  let c1_i32_193 : BitVec 32 := 1#32
  let v248 : BitVec 32 := Scalar.muli v71 c1_i32_193
  let v249 : BitVec 32 := Scalar.addi c0_i32_194 v248
  v249.toNat
def k0_off6 (d0 : Dev nD) (c0_i32_186 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c1024_i32 : BitVec 32 := 1024#32
  let v99 : BitVec 32 := Scalar.muli v42 c1024_i32
  let c256_i32 : BitVec 32 := 256#32
  let v100 : BitVec 32 := Scalar.muli v37 c256_i32
  let v101 : BitVec 32 := Scalar.addi v99 v100
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v240 : BitVec 32 := Scalar.subi v19 c0_i32_186
  let c2_i32_187 : BitVec 32 := 2#32
  let v241 : BitVec 32 := Scalar.subi v240 c2_i32_187
  let c8_i32_188 : BitVec 32 := 8#32
  let v242 : BitVec 32 := Scalar.addi v241 c8_i32_188
  let c4_i32_189 : BitVec 32 := 4#32
  let v243 : BitVec 32 := Scalar.remsi v242 c4_i32_189
  let c64_i32_190 : BitVec 32 := 64#32
  let v246 : BitVec 32 := Scalar.muli v243 c64_i32_190
  let v247 : BitVec 32 := Scalar.addi v101 v246
  let v265 : Index := Scalar.indexCast v247
  let c0_211 : Index := 0#32
  ![v265.toNat, 0]
def k0_dev9 (d0 : Dev nD) : Nat :=
  let c0_i32_228 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v62 : BitVec 32 := Scalar.addi v19 c1_i32_28
  let c4_i32_29 : BitVec 32 := 4#32
  let v63 : BitVec 32 := Scalar.remsi v62 c4_i32_29
  let c8_i32_30 : BitVec 32 := 8#32
  let v64 : BitVec 32 := Scalar.muli v63 c8_i32_30
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_31 : BitVec 32 := 2#32
  let v65 : BitVec 32 := Scalar.muli v37 c2_i32_31
  let v66 : BitVec 32 := Scalar.addi v64 v65
  let c2_i32_32 : BitVec 32 := 2#32
  let v67 : BitVec 32 := Scalar.remsi v37 c2_i32_32
  let c0_i32_33 : BitVec 32 := 0#32
  let v68 : BitVec 1 := Scalar.cmpi .eq v67 c0_i32_33
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c1_i32_34 : BitVec 32 := 1#32
  let v69 : BitVec 32 := Scalar.subi c1_i32_34 v42
  let v70 : BitVec 32 := Scalar.select v68 v42 v69
  let v71 : BitVec 32 := Scalar.addi v66 v70
  let c1_i32_227 : BitVec 32 := 1#32
  let v285 : BitVec 32 := Scalar.muli v71 c1_i32_227
  let v286 : BitVec 32 := Scalar.addi c0_i32_228 v285
  v286.toNat
def k0_dev10 (d0 : Dev nD) : Nat :=
  let c0_i32_262 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v62 : BitVec 32 := Scalar.addi v19 c1_i32_28
  let c4_i32_29 : BitVec 32 := 4#32
  let v63 : BitVec 32 := Scalar.remsi v62 c4_i32_29
  let c8_i32_30 : BitVec 32 := 8#32
  let v64 : BitVec 32 := Scalar.muli v63 c8_i32_30
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_31 : BitVec 32 := 2#32
  let v65 : BitVec 32 := Scalar.muli v37 c2_i32_31
  let v66 : BitVec 32 := Scalar.addi v64 v65
  let c2_i32_32 : BitVec 32 := 2#32
  let v67 : BitVec 32 := Scalar.remsi v37 c2_i32_32
  let c0_i32_33 : BitVec 32 := 0#32
  let v68 : BitVec 1 := Scalar.cmpi .eq v67 c0_i32_33
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c1_i32_34 : BitVec 32 := 1#32
  let v69 : BitVec 32 := Scalar.subi c1_i32_34 v42
  let v70 : BitVec 32 := Scalar.select v68 v42 v69
  let v71 : BitVec 32 := Scalar.addi v66 v70
  let c1_i32_261 : BitVec 32 := 1#32
  let v322 : BitVec 32 := Scalar.muli v71 c1_i32_261
  let v323 : BitVec 32 := Scalar.addi c0_i32_262 v322
  v323.toNat
def k0_off7 (d0 : Dev nD) (c0_i32_284 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c1024_i32 : BitVec 32 := 1024#32
  let v99 : BitVec 32 := Scalar.muli v42 c1024_i32
  let c256_i32 : BitVec 32 := 256#32
  let v100 : BitVec 32 := Scalar.muli v37 c256_i32
  let v101 : BitVec 32 := Scalar.addi v99 v100
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v347 : BitVec 32 := Scalar.subi v19 c0_i32_284
  let c8_i32_285 : BitVec 32 := 8#32
  let v348 : BitVec 32 := Scalar.addi v347 c8_i32_285
  let c4_i32_286 : BitVec 32 := 4#32
  let v349 : BitVec 32 := Scalar.remsi v348 c4_i32_286
  let c64_i32_287 : BitVec 32 := 64#32
  let v350 : BitVec 32 := Scalar.muli v349 c64_i32_287
  let v351 : BitVec 32 := Scalar.addi v101 v350
  let c0_i32_290 : BitVec 32 := 0#32
  ![v351.toNat, 0]
def k0_dev11 (d0 : Dev nD) : Nat :=
  let c0_i32_289 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v62 : BitVec 32 := Scalar.addi v19 c1_i32_28
  let c4_i32_29 : BitVec 32 := 4#32
  let v63 : BitVec 32 := Scalar.remsi v62 c4_i32_29
  let c8_i32_30 : BitVec 32 := 8#32
  let v64 : BitVec 32 := Scalar.muli v63 c8_i32_30
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_31 : BitVec 32 := 2#32
  let v65 : BitVec 32 := Scalar.muli v37 c2_i32_31
  let v66 : BitVec 32 := Scalar.addi v64 v65
  let c2_i32_32 : BitVec 32 := 2#32
  let v67 : BitVec 32 := Scalar.remsi v37 c2_i32_32
  let c0_i32_33 : BitVec 32 := 0#32
  let v68 : BitVec 1 := Scalar.cmpi .eq v67 c0_i32_33
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c1_i32_34 : BitVec 32 := 1#32
  let v69 : BitVec 32 := Scalar.subi c1_i32_34 v42
  let v70 : BitVec 32 := Scalar.select v68 v42 v69
  let v71 : BitVec 32 := Scalar.addi v66 v70
  let c1_i32_288 : BitVec 32 := 1#32
  let v352 : BitVec 32 := Scalar.muli v71 c1_i32_288
  let v353 : BitVec 32 := Scalar.addi c0_i32_289 v352
  v353.toNat
def k0_dev12 (d0 : Dev nD) : Nat :=
  let c0_i32_307 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v62 : BitVec 32 := Scalar.addi v19 c1_i32_28
  let c4_i32_29 : BitVec 32 := 4#32
  let v63 : BitVec 32 := Scalar.remsi v62 c4_i32_29
  let c8_i32_30 : BitVec 32 := 8#32
  let v64 : BitVec 32 := Scalar.muli v63 c8_i32_30
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_31 : BitVec 32 := 2#32
  let v65 : BitVec 32 := Scalar.muli v37 c2_i32_31
  let v66 : BitVec 32 := Scalar.addi v64 v65
  let c2_i32_32 : BitVec 32 := 2#32
  let v67 : BitVec 32 := Scalar.remsi v37 c2_i32_32
  let c0_i32_33 : BitVec 32 := 0#32
  let v68 : BitVec 1 := Scalar.cmpi .eq v67 c0_i32_33
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c1_i32_34 : BitVec 32 := 1#32
  let v69 : BitVec 32 := Scalar.subi c1_i32_34 v42
  let v70 : BitVec 32 := Scalar.select v68 v42 v69
  let v71 : BitVec 32 := Scalar.addi v66 v70
  let c1_i32_306 : BitVec 32 := 1#32
  let v371 : BitVec 32 := Scalar.muli v71 c1_i32_306
  let v372 : BitVec 32 := Scalar.addi c0_i32_307 v371
  v372.toNat
def k0_dev13 (d0 : Dev nD) : Nat :=
  let c0_i32_324 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v62 : BitVec 32 := Scalar.addi v19 c1_i32_28
  let c4_i32_29 : BitVec 32 := 4#32
  let v63 : BitVec 32 := Scalar.remsi v62 c4_i32_29
  let c8_i32_30 : BitVec 32 := 8#32
  let v64 : BitVec 32 := Scalar.muli v63 c8_i32_30
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_31 : BitVec 32 := 2#32
  let v65 : BitVec 32 := Scalar.muli v37 c2_i32_31
  let v66 : BitVec 32 := Scalar.addi v64 v65
  let c2_i32_32 : BitVec 32 := 2#32
  let v67 : BitVec 32 := Scalar.remsi v37 c2_i32_32
  let c0_i32_33 : BitVec 32 := 0#32
  let v68 : BitVec 1 := Scalar.cmpi .eq v67 c0_i32_33
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c1_i32_34 : BitVec 32 := 1#32
  let v69 : BitVec 32 := Scalar.subi c1_i32_34 v42
  let v70 : BitVec 32 := Scalar.select v68 v42 v69
  let v71 : BitVec 32 := Scalar.addi v66 v70
  let c1_i32_323 : BitVec 32 := 1#32
  let v390 : BitVec 32 := Scalar.muli v71 c1_i32_323
  let v391 : BitVec 32 := Scalar.addi c0_i32_324 v390
  v391.toNat
def k0_off8 (d0 : Dev nD) (c0_i32_336 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c1024_i32 : BitVec 32 := 1024#32
  let v99 : BitVec 32 := Scalar.muli v42 c1024_i32
  let v404 : BitVec 32 := Scalar.subi v37 c0_i32_336
  let c8_i32_337 : BitVec 32 := 8#32
  let v405 : BitVec 32 := Scalar.addi v404 c8_i32_337
  let c4_i32_338 : BitVec 32 := 4#32
  let v406 : BitVec 32 := Scalar.remsi v405 c4_i32_338
  let c256_i32_339 : BitVec 32 := 256#32
  let v407 : BitVec 32 := Scalar.muli v406 c256_i32_339
  let v408 : BitVec 32 := Scalar.addi v99 v407
  let c0_i32_342 : BitVec 32 := 0#32
  ![v408.toNat, 0]
def k0_dev14 (d0 : Dev nD) : Nat :=
  let c0_i32_341 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v54 : BitVec 32 := Scalar.muli v19 c8_i32_23
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_22 : BitVec 32 := 1#32
  let v52 : BitVec 32 := Scalar.addi v37 c1_i32_22
  let c4_i32 : BitVec 32 := 4#32
  let v53 : BitVec 32 := Scalar.remsi v52 c4_i32
  let c2_i32_24 : BitVec 32 := 2#32
  let v55 : BitVec 32 := Scalar.muli v53 c2_i32_24
  let v56 : BitVec 32 := Scalar.addi v54 v55
  let c2_i32_25 : BitVec 32 := 2#32
  let v57 : BitVec 32 := Scalar.remsi v53 c2_i32_25
  let c0_i32_26 : BitVec 32 := 0#32
  let v58 : BitVec 1 := Scalar.cmpi .eq v57 c0_i32_26
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c1_i32_27 : BitVec 32 := 1#32
  let v59 : BitVec 32 := Scalar.subi c1_i32_27 v42
  let v60 : BitVec 32 := Scalar.select v58 v42 v59
  let v61 : BitVec 32 := Scalar.addi v56 v60
  let c1_i32_340 : BitVec 32 := 1#32
  let v409 : BitVec 32 := Scalar.muli v61 c1_i32_340
  let v410 : BitVec 32 := Scalar.addi c0_i32_341 v409
  v410.toNat
def k0_dev15 (d0 : Dev nD) : Nat :=
  let c0_i32_358 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v54 : BitVec 32 := Scalar.muli v19 c8_i32_23
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_22 : BitVec 32 := 1#32
  let v52 : BitVec 32 := Scalar.addi v37 c1_i32_22
  let c4_i32 : BitVec 32 := 4#32
  let v53 : BitVec 32 := Scalar.remsi v52 c4_i32
  let c2_i32_24 : BitVec 32 := 2#32
  let v55 : BitVec 32 := Scalar.muli v53 c2_i32_24
  let v56 : BitVec 32 := Scalar.addi v54 v55
  let c2_i32_25 : BitVec 32 := 2#32
  let v57 : BitVec 32 := Scalar.remsi v53 c2_i32_25
  let c0_i32_26 : BitVec 32 := 0#32
  let v58 : BitVec 1 := Scalar.cmpi .eq v57 c0_i32_26
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c1_i32_27 : BitVec 32 := 1#32
  let v59 : BitVec 32 := Scalar.subi c1_i32_27 v42
  let v60 : BitVec 32 := Scalar.select v58 v42 v59
  let v61 : BitVec 32 := Scalar.addi v56 v60
  let c1_i32_357 : BitVec 32 := 1#32
  let v428 : BitVec 32 := Scalar.muli v61 c1_i32_357
  let v429 : BitVec 32 := Scalar.addi c0_i32_358 v428
  v429.toNat
def k0_dev16 (d0 : Dev nD) : Nat :=
  let c0_i32_375 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v54 : BitVec 32 := Scalar.muli v19 c8_i32_23
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_22 : BitVec 32 := 1#32
  let v52 : BitVec 32 := Scalar.addi v37 c1_i32_22
  let c4_i32 : BitVec 32 := 4#32
  let v53 : BitVec 32 := Scalar.remsi v52 c4_i32
  let c2_i32_24 : BitVec 32 := 2#32
  let v55 : BitVec 32 := Scalar.muli v53 c2_i32_24
  let v56 : BitVec 32 := Scalar.addi v54 v55
  let c2_i32_25 : BitVec 32 := 2#32
  let v57 : BitVec 32 := Scalar.remsi v53 c2_i32_25
  let c0_i32_26 : BitVec 32 := 0#32
  let v58 : BitVec 1 := Scalar.cmpi .eq v57 c0_i32_26
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c1_i32_27 : BitVec 32 := 1#32
  let v59 : BitVec 32 := Scalar.subi c1_i32_27 v42
  let v60 : BitVec 32 := Scalar.select v58 v42 v59
  let v61 : BitVec 32 := Scalar.addi v56 v60
  let c1_i32_374 : BitVec 32 := 1#32
  let v447 : BitVec 32 := Scalar.muli v61 c1_i32_374
  let v448 : BitVec 32 := Scalar.addi c0_i32_375 v447
  v448.toNat
def k0_off9 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c1024_i32 : BitVec 32 := 1024#32
  let v99 : BitVec 32 := Scalar.muli v42 c1024_i32
  let c0_i32_389 : BitVec 32 := 0#32
  ![v99.toNat, 0]
def k0_dev17 (d0 : Dev nD) : Nat :=
  let c0_i32_388 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_17 : BitVec 32 := 8#32
  let v44 : BitVec 32 := Scalar.muli v19 c8_i32_17
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_18 : BitVec 32 := 2#32
  let v45 : BitVec 32 := Scalar.muli v37 c2_i32_18
  let v46 : BitVec 32 := Scalar.addi v44 v45
  let c2_i32_19 : BitVec 32 := 2#32
  let v47 : BitVec 32 := Scalar.remsi v37 c2_i32_19
  let c0_i32_20 : BitVec 32 := 0#32
  let v48 : BitVec 1 := Scalar.cmpi .eq v47 c0_i32_20
  let c1_i32_16 : BitVec 32 := 1#32
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let v43 : BitVec 32 := Scalar.subi c1_i32_16 v42
  let c1_i32_21 : BitVec 32 := 1#32
  let v49 : BitVec 32 := Scalar.subi c1_i32_21 v43
  let v50 : BitVec 32 := Scalar.select v48 v43 v49
  let v51 : BitVec 32 := Scalar.addi v46 v50
  let c1_i32_387 : BitVec 32 := 1#32
  let v461 : BitVec 32 := Scalar.muli v51 c1_i32_387
  let v462 : BitVec 32 := Scalar.addi c0_i32_388 v461
  v462.toNat
abbrev stage0_0 : Fin 1 → Memref sig .tc .vmem S1x2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S32x2048x1024 : Shape := ⟨3, ![32, 2048, 1024]⟩
abbrev S_ : Shape := ⟨0, ![]⟩
abbrev S2048x1024 : Shape := ⟨2, ![2048, 1024]⟩

abbrev nBuf : Space → Nat
  | .hbm => 3
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S_, .f32⟩
  | .hbm, ⟨2, _⟩ => ⟨S2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Stages.lean ====
/-
# The kernel as a short sequence of stages

The printed kernel is one long body: the entry handshake, the copy of `x` into the result buffer, then fourteen
exchanges, seven of them followed by an addition. Here it is written as that sequence, each stage a small program of
its own, and shown to be the printed body (`body_eq`).
-/
module

public import proofs.«01_k».proof.Proof.Gen.KernelIdeal
public import proofs.«01_k».proof.Proof.Gen.KernelIdeal.Skeleton

@[expose] public section

set_option synthInstance.maxSize 4096

noncomputable section

namespace Cert.TreeProof

open Cert.KernelIdeal Cert.KernelIdeal.Gen

open Idealize.ShloMosaic
open Idealize.ShloMosaic.TcCoe
open Idealize.SL.Sem

variable {F : FTy → Type} [FloatOps F]

/-- The buffers of one device: the block of `x`, the result, and the three landing buffers. -/
abbrev xM : Memref sig .tc .vmem S1x2048x1024 .f32 := Memref.whole cc0_stg0_0
abbrev oM : Memref sig .tc .vmem S2048x1024 .f32 := Memref.whole cc0_stg1_0
abbrev bxM : Memref sig .tc .vmem S1024x1024 .f32 := Memref.whole cc0_scratch0
abbrev byM : Memref sig .tc .vmem S3x256x1024 .f32 := Memref.whole cc0_scratch1
abbrev bzM : Memref sig .tc .vmem S3x64x1024 .f32 := Memref.whole cc0_scratch2

abbrev sendS : DmaSems sig S_ := cc0_scratch3

/-- The barrier semaphore of the entry handshake. -/
abbrev barS : Sem sig := (SemArray.scalar (sig.barrier 0 rfl) : Sems sig S_).sem

/-- The receive semaphore of exchange `k`. -/
abbrev rsem (k : Fin 1 → ℕ) (h : ∀ a, k a + S1.size a ≤ S14.size a) : DmaSem sig :=
  ((cc0_scratch4.slice (Rect.unit (s := S14) k S1.size h)).squeeze S_ squeezes_S1_S_).sem

/-- Rows of the result buffer: a half, a quarter of a half, a quarter of that. -/
abbrev oHalf (off : Fin 2 → ℕ) (h : ∀ a, off a + S1024x1024.size a ≤ S2048x1024.size a) : Memref sig .tc .vmem S1024x1024 .f32 :=
  oM.slice (Rect.unit (s := S2048x1024) off S1024x1024.size h) (fun _ => rfl)
abbrev oQuar (off : Fin 2 → ℕ) (h : ∀ a, off a + S256x1024.size a ≤ S2048x1024.size a) : Memref sig .tc .vmem S256x1024 .f32 :=
  oM.slice (Rect.unit (s := S2048x1024) off S256x1024.size h) (fun _ => rfl)
abbrev oSub (off : Fin 2 → ℕ) (h : ∀ a, off a + S64x1024.size a ≤ S2048x1024.size a) : Memref sig .tc .vmem S64x1024 .f32 :=
  oM.slice (Rect.unit (s := S2048x1024) off S64x1024.size h) (fun _ => rfl)
/-- A slot of the landing buffers of the second and third axis. -/
abbrev bySlot (off : Fin 3 → ℕ) (h : ∀ a, off a + S1x256x1024.size a ≤ S3x256x1024.size a) : Memref sig .tc .vmem S256x1024 .f32 :=
  (byM.slice (Rect.unit (s := S3x256x1024) off S1x256x1024.size h) (fun _ => rfl)).squeeze S256x1024 squeezes_S1x256x1024_S256x1024
abbrev bzSlot (off : Fin 3 → ℕ) (h : ∀ a, off a + S1x64x1024.size a ≤ S3x64x1024.size a) : Memref sig .tc .vmem S64x1024 .f32 :=
  (bzM.slice (Rect.unit (s := S3x64x1024) off S1x64x1024.size h) (fun _ => rfl)).squeeze S64x1024 squeezes_S1x64x1024_S64x1024

/-- The entry handshake: one unit to each of the three devices that write into this one's buffers, then wait for
    three. -/
def handshake (n1 n2 n3 : Dev nD) : Prog (TpuEff nD τ sig (Elt F) Λ₀ .tc) PUnit := do
  semSignalWord n1 barS 1#32
  semSignalWord n2 barS 1#32
  semSignalWord n3 barS 1#32
  semWaitWord barS 3#32

/-- The copy of the block of `x` into the result buffer. -/
def fill : Prog (TpuEff nD τ sig (Elt F) Λ₀ .tc) PUnit := do
  let v : Vec F S1x2048x1024 .f32 ← Prog.lift (.load xM (Rect.unit (s := S1x2048x1024) ![0, 0, 0] S1x2048x1024.size inb_S1x2048x1024_S1x2048x1024_0_0_0).toLoadRect (View.loadsAt_vmem h_S1x2048x1024))
  let _w : Vec F S2048x1024 .f32 ← Prog.lift (.load oM (Rect.unit (s := S2048x1024) ![0, 0] S2048x1024.size inb_S2048x1024_S2048x1024_0_0).toLoadRect (View.loadsAt_vmem h_S2048x1024))
  Prog.lift (.store oM (Rect.unit (s := S2048x1024) ![0, 0] S2048x1024.size inb_S2048x1024_S2048x1024_0_0) (k0_pay1 v) Finset.univ (View.stores_vmem_bits_univ h_S2048x1024 rfl) (.inl rfl))

/-- One exchange: start the copy of `src` into device `n`'s `dst`, wait until it has left, wait for the copy that
    lands here. -/
def xchg {s : Shape} (sm : DmaSem sig) (n : Dev nD) (src dst : Memref sig .tc .vmem s .f32) (hs : src.view.WordExact) (hd : dst.view.WordExact)
    (hsc : (dst : Memref sig (Dev.tc n : Thread nD τ).2.kind .vmem s .f32).view.ref.isScScratch = false)
    (ht : DmaTarget.Typed (p := .tc) .vmem (.dma sm) (.remote (Dev.tc n : Thread nD τ) (dst : Memref sig (Dev.tc n : Thread nD τ).2.kind .vmem s .f32) (.dma sendS.sem) hsc)) :
    Prog (TpuEff nD τ sig (Elt F) Λ₀ .tc) PUnit := do
  Prog.lift (.enqueueDma src (.remote (Dev.tc n : Thread nD τ) dst (.dma sendS.sem) hsc) (.dma sm) hs hd ht)
  Prog.lift (.waitDma2 sendS.sem dst src hd hs)
  Prog.lift (.waitDma2 sm src dst hs hd)

/-- The additions: what landed, onto the rows of the result it belongs to. -/
def addHalf (off : Fin 2 → ℕ) (h : ∀ a, off a + S1024x1024.size a ≤ S2048x1024.size a) : Prog (TpuEff nD τ sig (Elt F) Λ₀ .tc) PUnit := do
  let v : Vec F S1024x1024 .f32 ← Prog.lift (.load oM (Rect.unit (s := S2048x1024) off S1024x1024.size h).toLoadRect (View.loadsAt_vmem h_S1024x1024))
  let w : Vec F S1024x1024 .f32 ← Prog.lift (.load bxM (Rect.unit (s := S1024x1024) ![0, 0] S1024x1024.size inb_S1024x1024_S1024x1024_0_0).toLoadRect (View.loadsAt_vmem h_S1024x1024))
  let _u : Vec F S1024x1024 .f32 ← Prog.lift (.load oM (Rect.unit (s := S2048x1024) off S1024x1024.size h).toLoadRect (View.loadsAt_vmem h_S1024x1024))
  Prog.lift (.store oM (Rect.unit (s := S2048x1024) off S1024x1024.size h) (k0_pay2 v w) Finset.univ (View.stores_vmem_bits_univ h_S1024x1024 rfl) (.inl rfl))
def addQuar (off : Fin 2 → ℕ) (h : ∀ a, off a + S256x1024.size a ≤ S2048x1024.size a)
    (sl : Fin 3 → ℕ) (hl : ∀ a, sl a + S1x256x1024.size a ≤ S3x256x1024.size a) : Prog (TpuEff nD τ sig (Elt F) Λ₀ .tc) PUnit := do
  let v : Vec F S256x1024 .f32 ← Prog.lift (.load oM (Rect.unit (s := S2048x1024) off S256x1024.size h).toLoadRect (View.loadsAt_vmem h_S256x1024))
  let w : Vec F S1x256x1024 .f32 ← Prog.lift (.load byM (Rect.unit (s := S3x256x1024) sl S1x256x1024.size hl).toLoadRect (View.loadsAt_vmem h_S1x256x1024))
  let _u : Vec F S256x1024 .f32 ← Prog.lift (.load oM (Rect.unit (s := S2048x1024) off S256x1024.size h).toLoadRect (View.loadsAt_vmem h_S256x1024))
  Prog.lift (.store oM (Rect.unit (s := S2048x1024) off S256x1024.size h) (k0_pay3 v w) Finset.univ (View.stores_vmem_bits_univ h_S256x1024 rfl) (.inl rfl))
def addSub (off : Fin 2 → ℕ) (h : ∀ a, off a + S64x1024.size a ≤ S2048x1024.size a)
    (sl : Fin 3 → ℕ) (hl : ∀ a, sl a + S1x64x1024.size a ≤ S3x64x1024.size a) : Prog (TpuEff nD τ sig (Elt F) Λ₀ .tc) PUnit := do
  let v : Vec F S64x1024 .f32 ← Prog.lift (.load oM (Rect.unit (s := S2048x1024) off S64x1024.size h).toLoadRect (View.loadsAt_vmem h_S64x1024))
  let w : Vec F S1x64x1024 .f32 ← Prog.lift (.load bzM (Rect.unit (s := S3x64x1024) sl S1x64x1024.size hl).toLoadRect (View.loadsAt_vmem h_S1x64x1024))
  let _u : Vec F S64x1024 .f32 ← Prog.lift (.load oM (Rect.unit (s := S2048x1024) off S64x1024.size h).toLoadRect (View.loadsAt_vmem h_S64x1024))
  Prog.lift (.store oM (Rect.unit (s := S2048x1024) off S64x1024.size h) (k0_pay6 v w) Finset.univ (View.stores_vmem_bits_univ h_S64x1024 rfl) (.inl rfl))

/-- The kernel on device `d`, stage by stage. -/
def stages (d : Dev nD) : Prog (TpuEff nD τ sig (Elt F) Λ₀ .tc) PUnit := do
  handshake ⟨k0_dev1 d, k0_dev1_lt d⟩ ⟨k0_dev2 d, k0_dev2_lt d⟩ ⟨k0_dev3 d, k0_dev3_lt d⟩
  fill
  xchg (rsem ![0] inb_S14_S1_0) ⟨k0_dev4 d, k0_dev4_lt d⟩ (oHalf (k0_off1 d) (k0_off1_inb d)) bxM (View.wordExact_bits rfl) (View.wordExact_bits rfl) rfl ⟨⟨rfl, Or.inl rfl⟩, trivial⟩
  addHalf (k0_off2 d) (k0_off2_inb d)
  xchg (rsem ![1] inb_S14_S1_1) ⟨k0_dev5 d, k0_dev5_lt d⟩ (oQuar (k0_off3 d 0#32) (k0_off3_inb d 0)) (bySlot ![0, 0, 0] inb_S3x256x1024_S1x256x1024_0_0_0) (View.wordExact_bits rfl) ((View.wordExact_bits rfl).reshape _ _) rfl ⟨⟨rfl, Or.inl rfl⟩, trivial⟩
  addQuar (k0_off4 d 0#32) (k0_off4_inb d 0) ![0, 0, 0] inb_S3x256x1024_S1x256x1024_0_0_0
  xchg (rsem ![2] inb_S14_S1_2) ⟨k0_dev6 d, k0_dev6_lt d⟩ (oQuar (k0_off3 d 1#32) (k0_off3_inb d 1)) (bySlot ![1, 0, 0] inb_S3x256x1024_S1x256x1024_1_0_0) (View.wordExact_bits rfl) ((View.wordExact_bits rfl).reshape _ _) rfl ⟨⟨rfl, Or.inl rfl⟩, trivial⟩
  addQuar (k0_off4 d 1#32) (k0_off4_inb d 1) ![1, 0, 0] inb_S3x256x1024_S1x256x1024_1_0_0
  xchg (rsem ![3] inb_S14_S1_3) ⟨k0_dev7 d, k0_dev7_lt d⟩ (oQuar (k0_off3 d 2#32) (k0_off3_inb d 2)) (bySlot ![2, 0, 0] inb_S3x256x1024_S1x256x1024_2_0_0) (View.wordExact_bits rfl) ((View.wordExact_bits rfl).reshape _ _) rfl ⟨⟨rfl, Or.inl rfl⟩, trivial⟩
  addQuar (k0_off4 d 2#32) (k0_off4_inb d 2) ![2, 0, 0] inb_S3x256x1024_S1x256x1024_2_0_0
  xchg (rsem ![4] inb_S14_S1_4) ⟨k0_dev8 d, k0_dev8_lt d⟩ (oSub (k0_off5 d 0#32) (k0_off5_inb d 0)) (bzSlot ![0, 0, 0] inb_S3x64x1024_S1x64x1024_0_0_0) (View.wordExact_bits rfl) ((View.wordExact_bits rfl).reshape _ _) rfl ⟨⟨rfl, Or.inl rfl⟩, trivial⟩
  addSub (k0_off6 d 0#32) (k0_off6_inb d 0) ![0, 0, 0] inb_S3x64x1024_S1x64x1024_0_0_0
  xchg (rsem ![5] inb_S14_S1_5) ⟨k0_dev9 d, k0_dev9_lt d⟩ (oSub (k0_off5 d 1#32) (k0_off5_inb d 1)) (bzSlot ![1, 0, 0] inb_S3x64x1024_S1x64x1024_1_0_0) (View.wordExact_bits rfl) ((View.wordExact_bits rfl).reshape _ _) rfl ⟨⟨rfl, Or.inl rfl⟩, trivial⟩
  addSub (k0_off6 d 1#32) (k0_off6_inb d 1) ![1, 0, 0] inb_S3x64x1024_S1x64x1024_1_0_0
  xchg (rsem ![6] inb_S14_S1_6) ⟨k0_dev10 d, k0_dev10_lt d⟩ (oSub (k0_off5 d 2#32) (k0_off5_inb d 2)) (bzSlot ![2, 0, 0] inb_S3x64x1024_S1x64x1024_2_0_0) (View.wordExact_bits rfl) ((View.wordExact_bits rfl).reshape _ _) rfl ⟨⟨rfl, Or.inl rfl⟩, trivial⟩
  addSub (k0_off6 d 2#32) (k0_off6_inb d 2) ![2, 0, 0] inb_S3x64x1024_S1x64x1024_2_0_0
  xchg (rsem ![7] inb_S14_S1_7) ⟨k0_dev11 d, k0_dev11_lt d⟩ (oSub (k0_off7 d 0#32) (k0_off7_inb d 0)) (oSub (k0_off7 d 0#32) (k0_off7_inb d 0)) (View.wordExact_bits rfl) (View.wordExact_bits rfl) rfl ⟨⟨rfl, Or.inl rfl⟩, trivial⟩
  xchg (rsem ![8] inb_S14_S1_8) ⟨k0_dev12 d, k0_dev12_lt d⟩ (oSub (k0_off7 d 1#32) (k0_off7_inb d 1)) (oSub (k0_off7 d 1#32) (k0_off7_inb d 1)) (View.wordExact_bits rfl) (View.wordExact_bits rfl) rfl ⟨⟨rfl, Or.inl rfl⟩, trivial⟩
  xchg (rsem ![9] inb_S14_S1_9) ⟨k0_dev13 d, k0_dev13_lt d⟩ (oSub (k0_off7 d 2#32) (k0_off7_inb d 2)) (oSub (k0_off7 d 2#32) (k0_off7_inb d 2)) (View.wordExact_bits rfl) (View.wordExact_bits rfl) rfl ⟨⟨rfl, Or.inl rfl⟩, trivial⟩
  xchg (rsem ![10] inb_S14_S1_10) ⟨k0_dev14 d, k0_dev14_lt d⟩ (oQuar (k0_off8 d 0#32) (k0_off8_inb d 0)) (oQuar (k0_off8 d 0#32) (k0_off8_inb d 0)) (View.wordExact_bits rfl) (View.wordExact_bits rfl) rfl ⟨⟨rfl, Or.inl rfl⟩, trivial⟩
  xchg (rsem ![11] inb_S14_S1_11) ⟨k0_dev15 d, k0_dev15_lt d⟩ (oQuar (k0_off8 d 1#32) (k0_off8_inb d 1)) (oQuar (k0_off8 d 1#32) (k0_off8_inb d 1)) (View.wordExact_bits rfl) (View.wordExact_bits rfl) rfl ⟨⟨rfl, Or.inl rfl⟩, trivial⟩
  xchg (rsem ![12] inb_S14_S1_12) ⟨k0_dev16 d, k0_dev16_lt d⟩ (oQuar (k0_off8 d 2#32) (k0_off8_inb d 2)) (oQuar (k0_off8 d 2#32) (k0_off8_inb d 2)) (View.wordExact_bits rfl) (View.wordExact_bits rfl) rfl ⟨⟨rfl, Or.inl rfl⟩, trivial⟩
  xchg (rsem ![13] inb_S14_S1_13) ⟨k0_dev17 d, k0_dev17_lt d⟩ (oHalf (k0_off9 d) (k0_off9_inb d)) (oHalf (k0_off9 d) (k0_off9_inb d)) (View.wordExact_bits rfl) (View.wordExact_bits rfl) rfl ⟨⟨rfl, Or.inl rfl⟩, trivial⟩

set_option maxRecDepth 65536 in
/-- The printed body is: ask which device this is, then the stages. -/
theorem body_eq :
    cc0_body (F := F) (Memref.whole cc0_stg0_0) (Memref.isWhole_whole _) (Memref.whole cc0_stg1_0) (Memref.isWhole_whole _)
        (Memref.whole cc0_scratch0) (Memref.isWhole_whole _) (Memref.whole cc0_scratch1) (Memref.isWhole_whole _)
        (Memref.whole cc0_scratch2) (Memref.isWhole_whole _) cc0_scratch3 cc0_scratch4
      = (Prog.lift .deviceId >>= stages) := rfl

end Cert.TreeProof
-- ==== Proof.Torus.lean ====
/-
# The arithmetic of the torus

The 32 devices stand on a 2 × 4 × 4 torus, numbered along a snake in the first two axes. Here: a device's three
coordinates, its neighbours, the rows of the result each step works on, and the fact that the words the printed
program computes for its target devices and its row offsets are these.
-/
module

public import proofs.«01_k».proof.Proof.Stages

@[expose] public section

noncomputable section

namespace Cert.TreeProof

open Cert.KernelIdeal Cert.KernelIdeal.Gen

open Idealize.ShloMosaic
open Idealize.ShloMosaic.TcCoe

/-! ## Coordinates and neighbours -/

/-- A device's place along the first, second and third axis. -/
def cx (c : Dev nD) : ℕ := if (c.val / 2 % 4) % 2 = 0 then c.val % 2 else 1 - c.val % 2
def cy (c : Dev nD) : ℕ := c.val / 2 % 4
def cz (c : Dev nD) : ℕ := c.val / 8

/-- The device at a place. -/
def place (x y z : ℕ) : Dev nD := ⟨(z * 8 + y * 2 + (if y % 2 = 0 then x else 1 - x)) % 32, Nat.mod_lt _ (by decide)⟩

/-- The partner along the first axis. -/
def xp (c : Dev nD) : Dev nD := place (1 - cx c) (cy c) (cz c)
/-- The next and the previous device along the second axis, and along the third. -/
def yr (c : Dev nD) : Dev nD := place (cx c) ((cy c + 1) % 4) (cz c)
def yl (c : Dev nD) : Dev nD := place (cx c) ((cy c + 3) % 4) (cz c)
def zr (c : Dev nD) : Dev nD := place (cx c) (cy c) ((cz c + 1) % 4)
def zl (c : Dev nD) : Dev nD := place (cx c) (cy c) ((cz c + 3) % 4)

theorem xp_xp : ∀ c : Dev nD, xp (xp c) = c := by decide +kernel
theorem yl_yr : ∀ c : Dev nD, yl (yr c) = c := by decide +kernel
theorem yr_yl : ∀ c : Dev nD, yr (yl c) = c := by decide +kernel
theorem zl_zr : ∀ c : Dev nD, zl (zr c) = c := by decide +kernel
theorem zr_zl : ∀ c : Dev nD, zr (zl c) = c := by decide +kernel
theorem yl3 : ∀ c : Dev nD, yl (yl (yl c)) = yr c := by decide +kernel
theorem zl3 : ∀ c : Dev nD, zl (zl (zl c)) = zr c := by decide +kernel

theorem cx_xp : ∀ c : Dev nD, cx (xp c) = 1 - cx c := by decide +kernel
theorem cx_lt : ∀ c : Dev nD, cx c < 2 := by decide +kernel
theorem cy_lt : ∀ c : Dev nD, cy c < 4 := by decide +kernel
theorem cz_lt : ∀ c : Dev nD, cz c < 4 := by decide +kernel
theorem place_self : ∀ c : Dev nD, place (cx c) (cy c) (cz c) = c := by decide +kernel

def xE : Dev nD ≃ Dev nD := ⟨xp, xp, xp_xp, xp_xp⟩
def yE : Dev nD ≃ Dev nD := ⟨yr, yl, yl_yr, yr_yl⟩
def zE : Dev nD ≃ Dev nD := ⟨zr, zl, zl_zr, zr_zl⟩

/-- Whom exchange `i` sends to. -/
def tgtE (i : Fin 14) : Dev nD ≃ Dev nD :=
  if i.val = 0 ∨ i.val = 13 then xE else if (1 ≤ i.val ∧ i.val ≤ 3) ∨ (10 ≤ i.val ∧ i.val ≤ 12) then yE else zE
abbrev tgt (i : Fin 14) (c : Dev nD) : Dev nD := tgtE i c

/-! ## Rows -/

/-- The first row of the half device `c` reduces, of the `k`-th quarter of that half counted from its own, and of the
    `k`-th sixteenth counted from its own. -/
def hlo (c : Dev nD) : ℕ := cx c * 1024
def hlo' (c : Dev nD) : ℕ := (1 - cx c) * 1024
def qlo (c : Dev nD) (k : ℕ) : ℕ := cx c * 1024 + (cy c + k) % 4 * 256
def slo (c : Dev nD) (k : ℕ) : ℕ := cx c * 1024 + cy c * 256 + (cz c + k) % 4 * 64

theorem hlo_xp : ∀ c : Dev nD, hlo (xp c) = hlo' c := by decide +kernel
theorem hlo'_xp : ∀ c : Dev nD, hlo' (xp c) = hlo c := by decide +kernel
theorem qlo_yl3 : ∀ c : Dev nD, qlo (yl c) 3 = qlo c 2 := by decide +kernel
theorem qlo_yl2 : ∀ c : Dev nD, qlo (yl c) 2 = qlo c 1 := by decide +kernel
theorem qlo_yl1 : ∀ c : Dev nD, qlo (yl c) 1 = qlo c 0 := by decide +kernel
theorem qlo_yl0 : ∀ c : Dev nD, qlo (yl c) 0 = qlo c 3 := by decide +kernel
theorem slo_zl3 : ∀ c : Dev nD, slo (zl c) 3 = slo c 2 := by decide +kernel
theorem slo_zl2 : ∀ c : Dev nD, slo (zl c) 2 = slo c 1 := by decide +kernel
theorem slo_zl1 : ∀ c : Dev nD, slo (zl c) 1 = slo c 0 := by decide +kernel
theorem slo_zl0 : ∀ c : Dev nD, slo (zl c) 0 = slo c 3 := by decide +kernel

/-! ## The printed targets -/

theorem dev1_eq : ∀ d : Dev nD, (⟨k0_dev1 d, k0_dev1_lt d⟩ : Dev nD) = xp d := by decide +kernel
theorem dev2_eq : ∀ d : Dev nD, (⟨k0_dev2 d, k0_dev2_lt d⟩ : Dev nD) = yl d := by decide +kernel
theorem dev3_eq : ∀ d : Dev nD, (⟨k0_dev3 d, k0_dev3_lt d⟩ : Dev nD) = zl d := by decide +kernel
theorem dev4_eq : ∀ d : Dev nD, (⟨k0_dev4 d, k0_dev4_lt d⟩ : Dev nD) = tgt 0 d := by decide +kernel
theorem dev5_eq : ∀ d : Dev nD, (⟨k0_dev5 d, k0_dev5_lt d⟩ : Dev nD) = tgt 1 d := by decide +kernel
theorem dev6_eq : ∀ d : Dev nD, (⟨k0_dev6 d, k0_dev6_lt d⟩ : Dev nD) = tgt 2 d := by decide +kernel
theorem dev7_eq : ∀ d : Dev nD, (⟨k0_dev7 d, k0_dev7_lt d⟩ : Dev nD) = tgt 3 d := by decide +kernel
theorem dev8_eq : ∀ d : Dev nD, (⟨k0_dev8 d, k0_dev8_lt d⟩ : Dev nD) = tgt 4 d := by decide +kernel
theorem dev9_eq : ∀ d : Dev nD, (⟨k0_dev9 d, k0_dev9_lt d⟩ : Dev nD) = tgt 5 d := by decide +kernel
theorem dev10_eq : ∀ d : Dev nD, (⟨k0_dev10 d, k0_dev10_lt d⟩ : Dev nD) = tgt 6 d := by decide +kernel
theorem dev11_eq : ∀ d : Dev nD, (⟨k0_dev11 d, k0_dev11_lt d⟩ : Dev nD) = tgt 7 d := by decide +kernel
theorem dev12_eq : ∀ d : Dev nD, (⟨k0_dev12 d, k0_dev12_lt d⟩ : Dev nD) = tgt 8 d := by decide +kernel
theorem dev13_eq : ∀ d : Dev nD, (⟨k0_dev13 d, k0_dev13_lt d⟩ : Dev nD) = tgt 9 d := by decide +kernel
theorem dev14_eq : ∀ d : Dev nD, (⟨k0_dev14 d, k0_dev14_lt d⟩ : Dev nD) = tgt 10 d := by decide +kernel
theorem dev15_eq : ∀ d : Dev nD, (⟨k0_dev15 d, k0_dev15_lt d⟩ : Dev nD) = tgt 11 d := by decide +kernel
theorem dev16_eq : ∀ d : Dev nD, (⟨k0_dev16 d, k0_dev16_lt d⟩ : Dev nD) = tgt 12 d := by decide +kernel
theorem dev17_eq : ∀ d : Dev nD, (⟨k0_dev17 d, k0_dev17_lt d⟩ : Dev nD) = tgt 13 d := by decide +kernel

/-! ## The printed row offsets -/

theorem off1_eq : ∀ d : Dev nD, k0_off1 d = ![hlo' d, 0] := by decide +kernel
theorem off2_eq : ∀ d : Dev nD, k0_off2 d = ![hlo d, 0] := by decide +kernel
theorem off3_0 : ∀ d : Dev nD, k0_off3 d 0#32 = ![qlo d 3, 0] := by decide +kernel
theorem off3_1 : ∀ d : Dev nD, k0_off3 d 1#32 = ![qlo d 2, 0] := by decide +kernel
theorem off3_2 : ∀ d : Dev nD, k0_off3 d 2#32 = ![qlo d 1, 0] := by decide +kernel
theorem off4_0 : ∀ d : Dev nD, k0_off4 d 0#32 = ![qlo d 2, 0] := by decide +kernel
theorem off4_1 : ∀ d : Dev nD, k0_off4 d 1#32 = ![qlo d 1, 0] := by decide +kernel
theorem off4_2 : ∀ d : Dev nD, k0_off4 d 2#32 = ![qlo d 0, 0] := by decide +kernel
theorem off5_0 : ∀ d : Dev nD, k0_off5 d 0#32 = ![slo d 3, 0] := by decide +kernel
theorem off5_1 : ∀ d : Dev nD, k0_off5 d 1#32 = ![slo d 2, 0] := by decide +kernel
theorem off5_2 : ∀ d : Dev nD, k0_off5 d 2#32 = ![slo d 1, 0] := by decide +kernel
theorem off6_0 : ∀ d : Dev nD, k0_off6 d 0#32 = ![slo d 2, 0] := by decide +kernel
theorem off6_1 : ∀ d : Dev nD, k0_off6 d 1#32 = ![slo d 1, 0] := by decide +kernel
theorem off6_2 : ∀ d : Dev nD, k0_off6 d 2#32 = ![slo d 0, 0] := by decide +kernel
theorem off7_0 : ∀ d : Dev nD, k0_off7 d 0#32 = ![slo d 0, 0] := by decide +kernel
theorem off7_1 : ∀ d : Dev nD, k0_off7 d 1#32 = ![slo d 3, 0] := by decide +kernel
theorem off7_2 : ∀ d : Dev nD, k0_off7 d 2#32 = ![slo d 2, 0] := by decide +kernel
theorem off8_0 : ∀ d : Dev nD, k0_off8 d 0#32 = ![qlo d 0, 0] := by decide +kernel
theorem off8_1 : ∀ d : Dev nD, k0_off8 d 1#32 = ![qlo d 3, 0] := by decide +kernel
theorem off8_2 : ∀ d : Dev nD, k0_off8 d 2#32 = ![qlo d 2, 0] := by decide +kernel
theorem off9_eq : ∀ d : Dev nD, k0_off9 d = ![hlo d, 0] := by decide +kernel

/-! ## Sets of rows -/

/-- The rows `a ≤ row < a + n` of the result buffer. -/
def rws (a n : ℕ) : Finset S2048x1024.Idx := Finset.univ.filter fun i => a ≤ (i 0).val ∧ (i 0).val < a + n

theorem mem_rws {a n : ℕ} {i : S2048x1024.Idx} : i ∈ rws a n ↔ a ≤ (i 0).val ∧ (i 0).val < a + n := by
  unfold rws; rw [Finset.mem_filter]; exact ⟨fun h => h.2, fun h => ⟨Finset.mem_univ _, h⟩⟩

theorem rws_disjoint {a n b k : ℕ} (h : a + n ≤ b ∨ b + k ≤ a) : Disjoint (rws a n) (rws b k) := by
  rw [Finset.disjoint_left]; intro i hi hj
  rw [mem_rws] at hi hj; omega

theorem row_lt (i : S2048x1024.Idx) : (i 0).val < 2048 := (i 0).isLt

/-- The two halves make up the buffer, the four quarters a half, the four sixteenths a quarter. -/
theorem halves (c : Dev nD) : (Finset.univ : Finset S2048x1024.Idx) = rws (hlo' c) 1024 ∪ rws (hlo c) 1024 := by
  ext i
  have h := row_lt i
  have hc := cx_lt c
  simp only [Finset.mem_univ, Finset.mem_union, mem_rws, hlo, hlo', true_iff]
  generalize cx c = x at *
  generalize (i 0).val = r at *
  rcases (by omega : x = 0 ∨ x = 1) with rfl | rfl <;> omega
theorem halves_disjoint (c : Dev nD) : Disjoint (rws (hlo' c) 1024) (rws (hlo c) 1024) := by
  have hc := cx_lt c
  refine rws_disjoint ?_
  unfold hlo hlo'
  generalize cx c = x at *
  rcases (by omega : x = 0 ∨ x = 1) with rfl | rfl <;> omega

theorem quarters (c : Dev nD) : rws (hlo c) 1024
    = rws (qlo c 3) 256 ∪ (rws (qlo c 2) 256 ∪ (rws (qlo c 1) 256 ∪ rws (qlo c 0) 256)) := by
  ext i
  have hc := cy_lt c
  simp only [Finset.mem_union, mem_rws, hlo, qlo]
  generalize cy c = y at *
  generalize (i 0).val = r at *
  generalize cx c * 1024 = b at *
  rcases (by omega : y = 0 ∨ y = 1 ∨ y = 2 ∨ y = 3) with rfl | rfl | rfl | rfl <;> omega
theorem quarter_disjoint (c : Dev nD) {j k : ℕ} (hj : j < 4) (hk : k < 4) (h : j ≠ k) :
    Disjoint (rws (qlo c j) 256) (rws (qlo c k) 256) := by
  refine rws_disjoint ?_
  unfold qlo
  have h1 : (cy c + j) % 4 ≠ (cy c + k) % 4 := by omega
  omega

theorem sixteenths (c : Dev nD) : rws (qlo c 0) 256
    = rws (slo c 3) 64 ∪ (rws (slo c 2) 64 ∪ (rws (slo c 1) 64 ∪ rws (slo c 0) 64)) := by
  ext i
  have hc := cz_lt c
  have hy := cy_lt c
  simp only [Finset.mem_union, mem_rws, qlo, slo]
  rw [show (cy c + 0) % 4 = cy c by omega]
  generalize cz c = z at *
  generalize (i 0).val = r at *
  generalize cx c * 1024 + cy c * 256 = b at *
  rcases (by omega : z = 0 ∨ z = 1 ∨ z = 2 ∨ z = 3) with rfl | rfl | rfl | rfl <;> omega
theorem sixteenth_disjoint (c : Dev nD) {j k : ℕ} (hj : j < 4) (hk : k < 4) (h : j ≠ k) :
    Disjoint (rws (slo c j) 64) (rws (slo c k) 64) := by
  refine rws_disjoint ?_
  unfold slo
  have h1 : (cz c + j) % 4 ≠ (cz c + k) % 4 := by omega
  omega

/-- The device that ends the reduction of a row. -/
def owner (i : S2048x1024.Idx) : Dev nD := place ((i 0).val / 1024) ((i 0).val / 256 % 4) ((i 0).val / 64 % 4)

theorem owner_of_mem (c : Dev nD) {i : S2048x1024.Idx} (h : i ∈ rws (slo c 0) 64) : owner i = c := by
  rw [mem_rws] at h
  unfold slo at h
  have h1 := cx_lt c; have h2 := cy_lt c; have h3 := cz_lt c
  rw [show (cz c + 0) % 4 = cz c by omega] at h
  unfold owner
  rw [show (i 0).val / 1024 = cx c by omega, show (i 0).val / 256 % 4 = cy c by omega, show (i 0).val / 64 % 4 = cz c by omega]
  exact place_self c

theorem set_oHalf (a : ℕ) (h) : (oHalf ![a, 0] h).view.set = rws a 1024 := by
  refine (View.set_slice_whole cc0_stg1_0 _).trans ?_
  ext i
  refine Rect.mem_set_unit.trans ?_
  rw [mem_rws]
  have h1 : (i 1).val < 1024 := (i 1).isLt
  exact ⟨fun H => H 0, fun H => Fin.forall_fin_two.mpr ⟨H, Nat.zero_le _, by show (i 1).val < 0 + 1024; omega⟩⟩
theorem set_oQuar (a : ℕ) (h) : (oQuar ![a, 0] h).view.set = rws a 256 := by
  refine (View.set_slice_whole cc0_stg1_0 _).trans ?_
  ext i
  refine Rect.mem_set_unit.trans ?_
  rw [mem_rws]
  have h1 : (i 1).val < 1024 := (i 1).isLt
  exact ⟨fun H => H 0, fun H => Fin.forall_fin_two.mpr ⟨H, Nat.zero_le _, by show (i 1).val < 0 + 1024; omega⟩⟩
theorem set_oSub (a : ℕ) (h) : (oSub ![a, 0] h).view.set = rws a 64 := by
  refine (View.set_slice_whole cc0_stg1_0 _).trans ?_
  ext i
  refine Rect.mem_set_unit.trans ?_
  rw [mem_rws]
  have h1 : (i 1).val < 1024 := (i 1).isLt
  exact ⟨fun H => H 0, fun H => Fin.forall_fin_two.mpr ⟨H, Nat.zero_le _, by show (i 1).val < 0 + 1024; omega⟩⟩

/-- The printed receive semaphore of exchange `i` is the pool's number `3 + i`. -/
def rq (i : Fin 14) : DmaSem sig := ⟨3 + i.val, by have := i.isLt; show 3 + i.val < 17; omega⟩

end Cert.TreeProof
-- ==== Proof.Proto.lean ====
/-
# The protocol

For each semaphore: who waits on it, who signals it or copies onto it, how much, in what order, and what each
landing hands over, contents included.

* The barrier semaphore of device `c`, one round of three units. Its partner along the first axis, its next device
  along the second and its next device along the third each give one, and with it their landing buffer of that axis:
  `c` is the one device that copies into it.
* The receive semaphore of exchange `i`, one round, credited by the one copy that lands on `c` in that exchange. In
  the reduction (exchanges 0 to 6) the copy hands over what landed and also the rows it was read from on the sender:
  the sender does not use them again before the broadcast. The rows of earlier senders travel along. So once the
  reduction is over, `c` holds, of every other device of its ring, the very rows it will write there or pass on.
  In the broadcast (exchanges 7 to 13) the copy hands over `c`'s own rows with the final sums in them, and the
  rows of the devices still to be written further on.
* The send semaphore, fourteen rounds, one exchange each. In the reduction it returns nothing (the rows went
  with the copy), in the broadcast the rows that were sent.
-/
module

public import proofs.«01_k».proof.Proof.Torus
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.TreeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The pipeline library's share of the ghost state, and the protocol's (three duty names). -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every counter zero, arbitrary generator registers. -/
def s₀ : MemSt nD τ sig (Elt F) := ⟨m, fun _ => 0, ρ⟩

/-! ## Contents -/

/-- What the staging buffer of `x` holds on device `c`. -/
def xstg (c : Dev nD) : (cc0_stg0_0 : Ref sig .tc).ty.Contents (Elt F) :=
  (win0_0.blk (0 : Fin 1)).view.read (Elt F) ((s₀ m ρ).mem ((c : Thread nD τ).loc main_arg0))

/-- Contents of a result buffer. -/
abbrev Cont (F : FTy → Type) [FloatOps F] : Type := S2048x1024.Idx → Elt F .f32

/-- Device `c`'s block of `x`; the sum over its pair; the partial sums along the second axis; along the third. -/
def X (c : Dev nD) : Cont F := k0_pay1 (xstg m ρ c)
def V1 (c : Dev nD) : Cont F := fun j => FloatOps.addf (X m ρ c j) (X m ρ (xp c) j)
def YS : ℕ → Dev nD → Cont F
  | 0, c => V1 m ρ c
  | s + 1, c => fun j => FloatOps.addf (V1 m ρ c j) (YS s (yl c) j)
def ZS : ℕ → Dev nD → Cont F
  | 0, c => YS m ρ 3 c
  | s + 1, c => fun j => FloatOps.addf (YS m ρ 3 c j) (ZS s (zl c) j)
/-- The result: at each row the full sum as the device that ends its reduction has it. -/
def R : Cont F := fun j => ZS m ρ 3 (owner j) j

/-! ## Pieces of memory -/

/-- Rows `S` of device `c`'s result buffer, at contents `f`; at some contents. -/
def oP (c : Dev nD) (S : Finset S2048x1024.Idx) (f : Cont F) : sProp 𝕄 :=
  ((c : Thread nD τ).loc cc0_stg1_0) ↦[(S : Finset (Idx ((c : Thread nD τ).loc cc0_stg1_0)))]{fullShare} (f : Buf (Elt F) ((c : Thread nD τ).loc cc0_stg1_0))
def oA (c : Dev nD) (S : Finset S2048x1024.Idx) : sProp 𝕄 := iprop(∃ f : Cont F, oP c S f)

/-- The landing buffers at some contents. -/
def bxA (c : Dev nD) : sProp 𝕄 := iprop(∃ f : Buf (Elt F) ((c : Thread nD τ).loc cc0_scratch0), ((c : Thread nD τ).loc cc0_scratch0) ↦{fullShare} f)
def byA (c : Dev nD) : sProp 𝕄 := iprop(∃ f : Buf (Elt F) ((c : Thread nD τ).loc cc0_scratch1), ((c : Thread nD τ).loc cc0_scratch1) ↦{fullShare} f)
def bzA (c : Dev nD) : sProp 𝕄 := iprop(∃ f : Buf (Elt F) ((c : Thread nD τ).loc cc0_scratch2), ((c : Thread nD τ).loc cc0_scratch2) ↦{fullShare} f)

/-- The first axis' landing buffer holding the rows from `a` on of `V`; a slot of the second's; of the third's. -/
def bxP (c : Dev nD) (a : ℕ) (V : Cont F) : sProp 𝕄 :=
  iprop(∃ f : Buf (Elt F) (bxM.view.loc (c : Thread nD τ)), ⌜∀ h, bxM.view.read (Elt F) f = (oHalf ![a, 0] h).view.read (Elt F) V⌝
    ∗ (bxM.view.loc (c : Thread nD τ) ↦[bxM.view.set]{fullShare} f))
def byP (c : Dev nD) (off : Fin 3 → ℕ) (hl : ∀ a, off a + S1x256x1024.size a ≤ S3x256x1024.size a) (a : ℕ) (V : Cont F) : sProp 𝕄 :=
  iprop(∃ f : Buf (Elt F) ((bySlot off hl).view.loc (c : Thread nD τ)), ⌜∀ h, (bySlot off hl).view.read (Elt F) f = (oQuar ![a, 0] h).view.read (Elt F) V⌝
    ∗ ((bySlot off hl).view.loc (c : Thread nD τ) ↦[(bySlot off hl).view.set]{fullShare} f))
def bzP (c : Dev nD) (off : Fin 3 → ℕ) (hl : ∀ a, off a + S1x64x1024.size a ≤ S3x64x1024.size a) (a : ℕ) (V : Cont F) : sProp 𝕄 :=
  iprop(∃ f : Buf (Elt F) ((bzSlot off hl).view.loc (c : Thread nD τ)), ⌜∀ h, (bzSlot off hl).view.read (Elt F) f = (oSub ![a, 0] h).view.read (Elt F) V⌝
    ∗ ((bzSlot off hl).view.loc (c : Thread nD τ) ↦[(bzSlot off hl).view.set]{fullShare} f))

section Storable
omit [FloatOps F] in
instance oP_storable (F : FTy → Type) [FloatOps F] (c : Dev nD) (S) (f : Cont F) : BI.Storable (upEmb : UEmb _ (MT nD τ sig Unit (Elt F) ℕ UU ℕ)) (oP c S f) := by unfold oP; infer_instance
instance oA_storable (c : Dev nD) (S) : BI.Storable (upEmb : UEmb _ 𝕄) (oA (F := F) c S) := by unfold oA; infer_instance
instance bxA_storable (c : Dev nD) : BI.Storable (upEmb : UEmb _ 𝕄) (bxA (F := F) c) := by unfold bxA; infer_instance
instance byA_storable (c : Dev nD) : BI.Storable (upEmb : UEmb _ 𝕄) (byA (F := F) c) := by unfold byA; infer_instance
instance bzA_storable (c : Dev nD) : BI.Storable (upEmb : UEmb _ 𝕄) (bzA (F := F) c) := by unfold bzA; infer_instance
instance bxP_storable (c : Dev nD) (a) (V) : BI.Storable (upEmb : UEmb _ 𝕄) (bxP (F := F) c a V) := by unfold bxP; infer_instance
instance byP_storable (c : Dev nD) (off) (hl) (a) (V) : BI.Storable (upEmb : UEmb _ 𝕄) (byP (F := F) c off hl a V) := by unfold byP; infer_instance
instance bzP_storable (c : Dev nD) (off) (hl) (a) (V) : BI.Storable (upEmb : UEmb _ 𝕄) (bzP (F := F) c off hl a V) := by unfold bzP; infer_instance
end Storable

/-! ## What is handed over -/

/-- With the three signals of the handshake. -/
def barPay (c : Dev nD) (d : Fin 3) : sProp 𝕄 := match d with
  | 0 => bxA (xp c)
  | 1 => byA (yr c)
  | 2 => bzA (zr c)

/-- With the copy that lands in exchange `i`. -/
def recvPay (c : Dev nD) : ℕ → sProp 𝕄
  | 0 => iprop(bxP c (hlo c) (X m ρ (xp c)) ∗ oA (xp c) (rws (hlo c) 1024))
  | 1 => iprop(byP c ![0, 0, 0] inb_S3x256x1024_S1x256x1024_0_0_0 (qlo c 2) (YS m ρ 0 (yl c)) ∗ oA (yl c) (rws (qlo c 2) 256))
  | 2 => iprop(byP c ![1, 0, 0] inb_S3x256x1024_S1x256x1024_1_0_0 (qlo c 1) (YS m ρ 1 (yl c)) ∗ oA (yl c) (rws (qlo c 1) 256)
      ∗ oA (yl (yl c)) (rws (qlo c 1) 256))
  | 3 => iprop(byP c ![2, 0, 0] inb_S3x256x1024_S1x256x1024_2_0_0 (qlo c 0) (YS m ρ 2 (yl c)) ∗ oA (yl c) (rws (qlo c 0) 256)
      ∗ oA (yl (yl c)) (rws (qlo c 0) 256) ∗ oA (yl (yl (yl c))) (rws (qlo c 0) 256))
  | 4 => iprop(bzP c ![0, 0, 0] inb_S3x64x1024_S1x64x1024_0_0_0 (slo c 2) (ZS m ρ 0 (zl c)) ∗ oA (zl c) (rws (slo c 2) 64))
  | 5 => iprop(bzP c ![1, 0, 0] inb_S3x64x1024_S1x64x1024_1_0_0 (slo c 1) (ZS m ρ 1 (zl c)) ∗ oA (zl c) (rws (slo c 1) 64)
      ∗ oA (zl (zl c)) (rws (slo c 1) 64))
  | 6 => iprop(bzP c ![2, 0, 0] inb_S3x64x1024_S1x64x1024_2_0_0 (slo c 0) (ZS m ρ 2 (zl c)) ∗ oA (zl c) (rws (slo c 0) 64)
      ∗ oA (zl (zl c)) (rws (slo c 0) 64) ∗ oA (zl (zl (zl c))) (rws (slo c 0) 64))
  | 7 => iprop(oP c (rws (slo c 3) 64) (R m ρ) ∗ oA (zl (zl c)) (rws (slo c 3) 64) ∗ oA (zl (zl (zl c))) (rws (slo c 3) 64))
  | 8 => iprop(oP c (rws (slo c 2) 64) (R m ρ) ∗ oA (zl (zl (zl c))) (rws (slo c 2) 64))
  | 9 => oP c (rws (slo c 1) 64) (R m ρ)
  | 10 => iprop(oP c (rws (qlo c 3) 256) (R m ρ) ∗ oA (yl (yl c)) (rws (qlo c 3) 256) ∗ oA (yl (yl (yl c))) (rws (qlo c 3) 256))
  | 11 => iprop(oP c (rws (qlo c 2) 256) (R m ρ) ∗ oA (yl (yl (yl c))) (rws (qlo c 2) 256))
  | 12 => oP c (rws (qlo c 1) 256) (R m ρ)
  | 13 => oP c (rws (hlo' c) 1024) (R m ρ)
  | _ => iprop(emp)

/-- With the end of the copy sent in exchange `i`. -/
def sendPay (c : Dev nD) : ℕ → sProp 𝕄
  | 7 => oP c (rws (slo c 0) 64) (R m ρ)
  | 8 => oP c (rws (slo c 3) 64) (R m ρ)
  | 9 => oP c (rws (slo c 2) 64) (R m ρ)
  | 10 => oP c (rws (qlo c 0) 256) (R m ρ)
  | 11 => oP c (rws (qlo c 3) 256) (R m ρ)
  | 12 => oP c (rws (qlo c 2) 256) (R m ρ)
  | 13 => oP c (rws (hlo c) 1024) (R m ρ)
  | _ => iprop(emp)

instance barPay_storable (c : Dev nD) (d : Fin 3) : BI.Storable (upEmb : UEmb _ 𝕄) (barPay (F := F) c d) := by
  unfold barPay; split <;> infer_instance
instance recvPay_storable (c : Dev nD) (i : ℕ) : BI.Storable (upEmb : UEmb _ 𝕄) (recvPay m ρ c i) := by
  unfold recvPay; split <;> infer_instance
instance sendPay_storable (c : Dev nD) (i : ℕ) : BI.Storable (upEmb : UEmb _ 𝕄) (sendPay m ρ c i) := by
  unfold sendPay; split <;> infer_instance

/-! ## Amounts, cells, the schedule -/

abbrev NX : ℕ := bxM.view.dmaCredit
abbrev NY : ℕ := (bySlot ![0, 0, 0] inb_S3x256x1024_S1x256x1024_0_0_0).view.dmaCredit
abbrev NZ : ℕ := (bzSlot ![0, 0, 0] inb_S3x64x1024_S1x64x1024_0_0_0).view.dmaCredit

/-- The credit of exchange `i`'s copy. -/
def Nn (i : ℕ) : ℕ := if i = 0 ∨ 13 ≤ i then NX else if i ≤ 3 ∨ 10 ≤ i then NY else NZ
theorem Nn_pos (i : ℕ) : 0 < Nn i := by
  unfold Nn
  split
  · exact View.dmaCredit_pos _ (by decide)
  split
  · exact View.dmaCredit_pos _ (by decide)
  · exact View.dmaCredit_pos _ (by decide)

abbrev barCell (c : Dev nD) : GSem nD τ sig := ((c : Thread nD τ), .reg barS)
abbrev sendCell (c : Dev nD) : GSem nD τ sig := ((c : Thread nD τ), .dma sendS.sem)
abbrev recvCell (c : Dev nD) (i : Fin 14) : GSem nD τ sig := ((c : Thread nD τ), .dma (rq i))

theorem send_val : (sendS.sem : DmaSem sig).val = 2 := by decide
theorem rq_val (i : Fin 14) : (rq i).val = 3 + i.val := rfl

def treeRd : Rounds.Schedule (GSem nD τ sig) (Fin 3) 𝕄 where
  duties g r := if g.1.2 = .tc then (match g.2 with
    | .reg s => if s = barS ∧ r = 0 then Finset.univ else ∅
    | .dma q => if q.val = 2 then (if r < 14 then {0} else ∅) else if 3 ≤ q.val ∧ r = 0 then {0} else ∅) else ∅
  unitless _ := False
  amount g r _ := match g.2 with
    | .reg _ => 1
    | .dma q => if q.val = 2 then Nn r else Nn (q.val - 3)
  payload g r d := match g.2 with
    | .reg _ => barPay g.1.1 d
    | .dma q => if q.val = 2 then sendPay m ρ g.1.1 r else recvPay m ρ g.1.1 (q.val - 3)
  amount_pos g r _ _ := by
    split
    · exact Nat.one_pos
    · split <;> exact Nn_pos _

instance treeRd_payload_storable (g : GSem nD τ sig) (r : ℕ) (d : Fin 3) :
    BI.Storable (upEmb : UEmb _ 𝕄) ((treeRd m ρ).payload g r d) := by
  unfold treeRd
  dsimp only
  split
  · infer_instance
  · split <;> infer_instance

section Sched
variable (c : Dev nD) (i : Fin 14)

theorem duties_bar : (treeRd m ρ).duties (barCell c) 0 = Finset.univ := rfl
theorem duties_send (r : ℕ) (h : r < 14) : (treeRd m ρ).duties (sendCell c) r = {0} := by
  dsimp only [treeRd]; rw [if_pos rfl, if_pos send_val, if_pos h]
theorem duties_recv : (treeRd m ρ).duties (recvCell c i) 0 = {0} := by
  dsimp only [treeRd]
  rw [if_pos rfl, if_neg (by rw [rq_val]; omega), if_pos ⟨by rw [rq_val]; omega, rfl⟩]
theorem duties_bar_later : ∀ r, 1 ≤ r → (treeRd m ρ).duties (barCell c) r = ∅ := fun r hr => by
  dsimp only [treeRd]; rw [if_pos rfl, if_neg (fun h => by omega)]
theorem duties_send_later : ∀ r, 14 ≤ r → (treeRd m ρ).duties (sendCell c) r = ∅ := fun r hr => by
  dsimp only [treeRd]; rw [if_pos rfl, if_pos send_val, if_neg (fun h => by omega)]
theorem duties_recv_later : ∀ r, 1 ≤ r → (treeRd m ρ).duties (recvCell c i) r = ∅ := fun r hr => by
  dsimp only [treeRd]
  rw [if_pos rfl, if_neg (by rw [rq_val]; omega), if_neg (fun h => by omega)]

theorem amount_bar (d : Fin 3) : (treeRd m ρ).amount (barCell c) 0 d = 1 := rfl
theorem amount_send (r : ℕ) (d : Fin 3) : (treeRd m ρ).amount (sendCell c) r d = Nn r := by
  dsimp only [treeRd]; rw [if_pos send_val]
theorem amount_recv (r : ℕ) (d : Fin 3) : (treeRd m ρ).amount (recvCell c i) r d = Nn i := by
  dsimp only [treeRd]; rw [if_neg (by rw [rq_val]; omega), rq_val, Nat.add_sub_cancel_left]

theorem expect_bar : (treeRd m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_send (r : ℕ) (h : r < 14) : (treeRd m ρ).expect (sendCell c) r = Nn r := by
  unfold Schedule.expect Schedule.amountOf; rw [duties_send m ρ c r h, Finset.sum_singleton, amount_send]
theorem expect_recv : (treeRd m ρ).expect (recvCell c i) 0 = Nn i := by
  unfold Schedule.expect Schedule.amountOf; rw [duties_recv, Finset.sum_singleton, amount_recv]

theorem payload_bar (d : Fin 3) : (treeRd m ρ).payload (barCell c) 0 d = barPay c d := rfl
theorem payload_send (r : ℕ) (d : Fin 3) : (treeRd m ρ).payload (sendCell c) r d = sendPay m ρ c r := by
  dsimp only [treeRd]; rw [if_pos send_val]
theorem payload_recv (r : ℕ) (d : Fin 3) : (treeRd m ρ).payload (recvCell c i) r d = recvPay m ρ c i := by
  dsimp only [treeRd]; rw [if_neg (by rw [rq_val]; omega), rq_val, Nat.add_sub_cancel_left]

theorem bigSep_fin3 (Φ : Fin 3 → sProp 𝕄) : bigSep Finset.univ Φ = iprop(Φ 0 ∗ Φ 1 ∗ Φ 2) :=
  bigSep_univ_eq_bigSepL [0, 1, 2] (by decide) (by decide) Φ

theorem rest_bar : bigSep ((treeRd m ρ).duties (barCell c) 0 \ ∅) (fun d => (treeRd m ρ).payload (barCell c) 0 d)
    = iprop(bxA (xp c) ∗ byA (yr c) ∗ bzA (zr c)) := by
  rw [Finset.sdiff_empty, duties_bar, bigSep_fin3]; rfl
theorem rest_send (r : ℕ) (h : r < 14) :
    bigSep ((treeRd m ρ).duties (sendCell c) r \ ∅) (fun d => (treeRd m ρ).payload (sendCell c) r d) = sendPay m ρ c r := by
  rw [Finset.sdiff_empty, duties_send m ρ c r h, bigSep_singleton, payload_send]
theorem rest_recv :
    bigSep ((treeRd m ρ).duties (recvCell c i) 0 \ ∅) (fun d => (treeRd m ρ).payload (recvCell c i) 0 d) = recvPay m ρ c i := by
  rw [Finset.sdiff_empty, duties_recv, bigSep_singleton, payload_recv]

end Sched

/-! ## What a device owes, and the levels -/

/-- After `k` exchanges device `c` still owes the later exchanges' credits. -/
def Orest (c : Dev nD) (k : ℕ) : CellTallies nD τ sig Unit :=
  ∑ i ∈ Finset.univ.filter (fun i : Fin 14 => k ≤ i.val), tallyAt (recvCell (tgt i c) i) () (Nn i)
/-- At launch also the three signals of the handshake, the first to be paid last in the sum. -/
def O2 (c : Dev nD) : CellTallies nD τ sig Unit := Orest c 0 + tallyAt (barCell (zl c)) () 1
def O1 (c : Dev nD) : CellTallies nD τ sig Unit := O2 c + tallyAt (barCell (yl c)) () 1
def O₀ (c : Dev nD) : CellTallies nD τ sig Unit := O1 c + tallyAt (barCell (xp c)) () 1

theorem Orest_step (c : Dev nD) (i : Fin 14) :
    Orest c i.val = Orest c (i.val + 1) + tallyAt (recvCell (tgt i c) i) () (Nn i) := by
  unfold Orest
  rw [show (Finset.univ.filter fun j : Fin 14 => i.val ≤ j.val) = insert i (Finset.univ.filter fun j : Fin 14 => i.val + 1 ≤ j.val) from by
    ext j; simp only [Finset.mem_filter, Finset.mem_univ, true_and, Finset.mem_insert, Fin.ext_iff]; omega]
  rw [Finset.sum_insert (by simp only [Finset.mem_filter, Finset.mem_univ, true_and]; omega), add_comm]

theorem Orest_end (c : Dev nD) : Orest c 14 = 0 := by
  unfold Orest
  rw [Finset.filter_false_of_mem (fun j _ => by have := j.isLt; omega), Finset.sum_empty]

def L (g : GSem nD τ sig) : Finset Unit := if g.1.2 = .tc then {()} else ∅
/-- The barrier at 1, the receive semaphore of exchange `i` at `2 + i`, everything else at 0. -/
def lv (g : GSem nD τ sig) (_ : Unit) : ℕ := match g.2 with
  | .reg _ => 1
  | .dma q => if 3 ≤ q.val then q.val - 1 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (i : Fin 14) (u : Unit) : lv (recvCell c i) u = 2 + i.val := by
  show (if 3 ≤ (rq i).val then (rq i).val - 1 else 0) = _
  rw [rq_val, if_pos (by omega)]; omega
theorem lv_bar (c : Dev nD) (u : Unit) : lv (barCell c) u = 1 := rfl
theorem lv_send (c : Dev nD) (u : Unit) : lv (sendCell c) u = 0 := by
  show (if 3 ≤ (sendS.sem : DmaSem sig).val then (sendS.sem : DmaSem sig).val - 1 else 0) = 0
  rw [send_val, if_neg (by omega)]

theorem tally_pos {g h : GSem nD τ sig} {n : ℕ} {u : Unit} (hp : 0 < tallyAt h () n g u) : g = h := by
  rw [tallyAt_apply] at hp
  by_contra hn
  rw [if_neg (fun h' => hn h'.1)] at hp
  exact Nat.lt_irrefl 0 hp

theorem Orest_apply (c : Dev nD) (k : ℕ) (g : GSem nD τ sig) (u : Unit) :
    Orest c k g u = ∑ i ∈ Finset.univ.filter (fun i : Fin 14 => k ≤ i.val), tallyAt (recvCell (tgt i c) i) () (Nn i) g u := by
  unfold Orest; rw [Finset.sum_apply, Finsupp.finset_sum_apply]

theorem Orest_pos {c : Dev nD} {k : ℕ} {g : GSem nD τ sig} {u : Unit} (h : 0 < Orest c k g u) :
    ∃ i : Fin 14, k ≤ i.val ∧ g = recvCell (tgt i c) i := by
  rw [Orest_apply] at h
  obtain ⟨i, hi, hp⟩ := Finset.exists_ne_zero_of_sum_ne_zero h.ne'
  exact ⟨i, (Finset.mem_filter.mp hi).2, tally_pos (Nat.pos_of_ne_zero hp)⟩

theorem O₀_pos {c : Dev nD} {g : GSem nD τ sig} {u : Unit} (h : 0 < O₀ c g u) :
    (∃ i : Fin 14, g = recvCell (tgt i c) i) ∨ ∃ d : Dev nD, g = barCell d := by
  unfold O₀ O1 O2 at h
  rw [Pi.add_apply, Finsupp.add_apply, Pi.add_apply, Finsupp.add_apply, Pi.add_apply, Finsupp.add_apply] at h
  by_cases h1 : 0 < Orest c 0 g u
  · obtain ⟨i, -, hi⟩ := Orest_pos h1; exact .inl ⟨i, hi⟩
  by_cases h2 : 0 < tallyAt (barCell (zl c)) () 1 g u
  · exact .inr ⟨_, tally_pos h2⟩
  by_cases h3 : 0 < tallyAt (barCell (yl c)) () 1 g u
  · exact .inr ⟨_, tally_pos h3⟩
  · exact .inr ⟨xp c, tally_pos (n := 1) (u := u) (by omega)⟩

/-- A wait on a cell below everything owed is allowed. -/
theorem mayWait_of (c : Dev nD) (sm : SemLoc sig) (O : CellTallies nD τ sig Unit) (n : ℕ) (hn : lv ((c : Thread nD τ), sm) () ≤ n)
    (hO : ∀ g u, 0 < O g u → g.1.2 = .tc ∧ n < lv g u) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hn)
    (fun g u hg => (hO g u hg).2)

/-- At the staging waits, the barrier wait, the send wait and the receive wait of exchange `i`. -/
theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  rcases hO with rfl | rfl
  · refine mayWait_of c _ _ 0 (by show (if 3 ≤ q.val then _ else 0) ≤ 0; rw [if_neg (by omega)]) fun g u hg => ?_
    rcases O₀_pos hg with ⟨i, rfl⟩ | ⟨d, rfl⟩
    · exact ⟨rfl, by rw [lv_recv]; omega⟩
    · exact ⟨rfl, Nat.one_pos⟩
  · rw [MayWait_zero]; iintro -; iempintro
theorem mayWait_bar (c : Dev nD) : (levAts L lv : sProp 𝕄) ⊢ MayWait (c : Thread nD τ) (.reg barS) () (Orest c 0) :=
  mayWait_of c _ _ 1 (le_refl _) fun g u hg => by
    obtain ⟨i, -, rfl⟩ := Orest_pos hg
    exact ⟨rfl, by rw [lv_recv]; omega⟩
theorem mayWait_send (c : Dev nD) (k : ℕ) : (levAts L lv : sProp 𝕄) ⊢ MayWait (c : Thread nD τ) (.dma sendS.sem) () (Orest c k) :=
  mayWait_of c _ _ 0 (lv_send c ()).le fun g u hg => by
    obtain ⟨i, -, rfl⟩ := Orest_pos hg
    exact ⟨rfl, by rw [lv_recv]; omega⟩
theorem mayWait_recv (c : Dev nD) (i : Fin 14) :
    (levAts L lv : sProp 𝕄) ⊢ MayWait (c : Thread nD τ) (.dma (rq i)) () (Orest c (i.val + 1)) :=
  mayWait_of c _ _ (2 + i.val) (lv_recv c i ()).le fun g u hg => by
    obtain ⟨j, hj, rfl⟩ := Orest_pos hg
    exact ⟨rfl, by rw [lv_recv]; omega⟩

end Cert.TreeProof
-- ==== Proof.Xchg.lean ====
/-
# One exchange

The cells of a device and the marks every device may read; then one exchange of the kernel, once for the reduction
(the source rows travel with the copy) and once for the broadcast (they come back with the send wait), at a
symbolic exchange number.
-/
module

public import proofs.«01_k».proof.Proof.Proto

@[expose] public section

noncomputable section

namespace Cert.TreeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a program of device `c`. -/
abbrev wpc (c : Dev nD) (p : Prog (TpuEff nD τ sig (Elt F) Λ₀ .tc) PUnit) (Q : PUnit → sProp 𝕄) : sProp 𝕄 :=
  wp frame (wpE (defs₀ (F := F)) 𝒱₀ (c : Thread nD τ) none) Set.univ p Q

/-! ## The cells -/

/-- A device's sixteen semaphores: the barrier, the send semaphore, the fourteen receive semaphores. -/
def csem : Fin 16 → SemLoc sig
  | ⟨0, _⟩ => .reg barS
  | ⟨k + 1, h⟩ => .dma (⟨k + 2, by show k + 2 < 17; omega⟩ : DmaSem sig)
def kcell (p : Dev nD × Fin 16) : GSem nD τ sig := ((p.1 : Thread nD τ), csem p.2)
/-- The number of exchange `i`'s receive semaphore among them. -/
def kx (i : Fin 14) : Fin 16 := ⟨i.val + 2, by omega⟩

theorem kcell_bar (c : Dev nD) : kcell (c, 0) = barCell c := rfl
theorem kcell_send (c : Dev nD) : kcell (c, 1) = sendCell c := by
  show ((c : Thread nD τ), SemLoc.dma (⟨2, _⟩ : DmaSem sig)) = _
  rw [show (⟨2, by decide⟩ : DmaSem sig) = sendS.sem from Fin.ext send_val.symm]
theorem kcell_recv (c : Dev nD) (i : Fin 14) : kcell (c, kx i) = recvCell c i := by
  show ((c : Thread nD τ), SemLoc.dma (⟨i.val + 1 + 2, _⟩ : DmaSem sig)) = _
  rw [show (⟨i.val + 1 + 2, by show i.val + 1 + 2 < 17; omega⟩ : DmaSem sig) = rq i from Fin.ext (by rw [rq_val]; show i.val + 1 + 2 = _; omega)]

/-- Every cell's invariant, and that every cell has reached round 0. -/
def records (K : Dev nD × Fin 16 → ℕ) : sProp 𝕄 :=
  iprop((bigSep Finset.univ fun ck : Dev nD × Fin 16 => cellInv ER (treeRd m ρ) (K ck) (kcell ck))
    ∗ bigSep Finset.univ fun ck : Dev nD × Fin 16 => reached ER (kcell ck) 0)

instance records_persistent (K : Dev nD × Fin 16 → ℕ) : BI.Persistent (records m ρ K) := by unfold records; infer_instance

section Records
variable (K : Dev nD × Fin 16 → ℕ)

theorem all_inv (ck : Dev nD × Fin 16) :
    (bigSep Finset.univ fun ck : Dev nD × Fin 16 => (cellInv ER (treeRd m ρ) (K ck) (kcell ck) : sProp 𝕄)) ⊢ cellInv ER (treeRd m ρ) (K ck) (kcell ck) :=
  bigSep_elim (Finset.mem_univ ck)
theorem all_reached (ck : Dev nD × Fin 16) :
    (bigSep Finset.univ fun ck : Dev nD × Fin 16 => (reached ER (kcell ck) 0 : sProp 𝕄)) ⊢ reached ER (kcell ck) 0 :=
  bigSep_elim (Finset.mem_univ ck)
theorem rec_inv (ck : Dev nD × Fin 16) : records m ρ K ⊢ cellInv ER (treeRd m ρ) (K ck) (kcell ck) := by
  unfold records; iintro ⟨#H, -⟩
  iapply (all_inv m ρ K ck); iexact H
theorem rec_reached (ck : Dev nD × Fin 16) : records m ρ K ⊢ reached ER (kcell ck) 0 := by
  unfold records; iintro ⟨-, #H⟩
  iapply (all_reached (F := F) ck); iexact H

theorem inv_bar (c : Dev nD) : records m ρ K ⊢ cellInv ER (treeRd m ρ) (K (c, 0)) (barCell c) := rec_inv m ρ K (c, 0)
theorem inv_send (c : Dev nD) : records m ρ K ⊢ cellInv ER (treeRd m ρ) (K (c, 1)) (sendCell c) :=
  kcell_send c ▸ rec_inv m ρ K (c, 1)
theorem inv_recv (c : Dev nD) (i : Fin 14) : records m ρ K ⊢ cellInv ER (treeRd m ρ) (K (c, kx i)) (recvCell c i) :=
  kcell_recv c i ▸ rec_inv m ρ K (c, kx i)
theorem reached_bar (c : Dev nD) : records m ρ K ⊢ reached ER (barCell c) 0 := rec_reached m ρ K (c, 0)
theorem reached_recv (c : Dev nD) (i : Fin 14) : records m ρ K ⊢ reached ER (recvCell c i) 0 :=
  kcell_recv c i ▸ rec_reached m ρ K (c, kx i)

/-- What every device may read at any time. -/
def marks : sProp 𝕄 := iprop(records m ρ K ∗ levAts L lv)
instance marks_persistent : BI.Persistent (marks m ρ K) := by unfold marks; infer_instance

/-! ## One exchange -/

/-- What exchange `i` uses up: the two duties its copy pays, the position and the credit of the receive wait. -/
def tk (c : Dev nD) (i : Fin 14) : sProp 𝕄 :=
  iprop(dutyTok ER (sendCell c) i.val 0 ∗ dutyTok ER (recvCell (tgt i c) i) 0 0 ∗ atPos ER (recvCell c i) 0 ∅ 0
    ∗ cred (tallyAt (recvCell c i) () (Nn i)))
/-- What goes from exchange to exchange: what is still owed, and where the send semaphore is. -/
def st (c : Dev nD) (k : ℕ) : sProp 𝕄 :=
  iprop(∃ W : Waits sig Unit, owes (c : Thread nD τ) (Orest c k) W ∗ reached ER (sendCell c) k ∗ atPos ER (sendCell c) k ∅ 0)
/-- What is left of an exchange: its receive semaphore one round on. -/
def dn (c : Dev nD) (i : Fin 14) : sProp 𝕄 := atPos ER (recvCell c i) 1 ∅ 0

variable {s : Shape}

/-- The two waits of an exchange. -/
theorem wp_waits (c : Dev nD) (i : Fin 14) (src dst : Memref sig .tc .vmem s .f32) (hs : src.view.WordExact) (hd : dst.view.WordExact)
    (hNs : src.view.dmaCredit = Nn i) (hNd : dst.view.dmaCredit = Nn i) (W : Waits sig Unit) (Q : PUnit → sProp 𝕄) :
    iprop(marks m ρ K ∗ owes (c : Thread nD τ) (Orest c (i.val + 1)) W ∗ cred (tallyAt (sendCell c) () (Nn i)) ∗ atPos ER (sendCell c) i.val ∅ 0
        ∗ atPos ER (recvCell c i) 0 ∅ 0 ∗ cred (tallyAt (recvCell c i) () (Nn i)))
      ⊢ iprop((st c (i.val + 1) ∗ dn c i ∗ sendPay m ρ c i.val ∗ recvPay m ρ c i.val -∗ Q ⟨⟩)
        -∗ wpc c (.op (.waitDma2 sendS.sem dst src hd hs) fun _ => .op (.waitDma2 (rq i) src dst hs hd) .ret) Q) := by
  unfold marks
  iintro ⟨⟨#HR, #Hlev⟩, HO, HcS, HatS, HatV, HcV⟩ Hk
  iapply (Rounds.wp_wait_rest_token 𝒱₀ ER (treeRd m ρ) (c : Thread nD τ) none (κ := K (c, 1))
      (wpE_waitDma2_eq 𝒱₀ (c : Thread nD τ) none Set.univ) (Set.mem_univ _) () (O := Orest c (i.val + 1)) (W := W) (R := i.val) (m := 0) (T := ∅)
      (by rw [Nat.zero_add, expect_send m ρ c i.val i.isLt, hNs])) $$ [HcS HO HatS]
  · isplitr; · iapply (inv_send m ρ K c); iexact HR
    isplitl [HcS]; · rw [hNs]; iexact HcS
    isplitl [HO]; · iexact HO
    isplitr; · iapply (mayWait_send c); iexact Hlev
    iexact HatS
  iintro ⟨HO, HatS, #HrS, Hpay⟩
  ihave HpS := (Entails.of_eq (rest_send m ρ c i.val i.isLt)) $$ Hpay
  iapply (Rounds.wp_wait_rest_token 𝒱₀ ER (treeRd m ρ) (c : Thread nD τ) none (κ := K (c, kx i))
      (wpE_waitDma2_eq 𝒱₀ (c : Thread nD τ) none Set.univ) (Set.mem_univ _) () (O := Orest c (i.val + 1))
      (W := insert (SemLoc.dma sendS.sem, ()) W) (R := 0) (m := 0) (T := ∅)
      (by rw [Nat.zero_add, expect_recv, hNd])) $$ [HcV HO HatV]
  · isplitr; · iapply (inv_recv m ρ K c i); iexact HR
    isplitl [HcV]; · rw [hNd]; iexact HcV
    isplitl [HO]; · iexact HO
    isplitr; · iapply (mayWait_recv c i); iexact Hlev
    iexact HatV
  iintro ⟨HO, HatV, -, Hpay⟩
  ihave HpV := (Entails.of_eq (rest_recv m ρ c i)) $$ Hpay
  rw [wp_ret]; imodintro
  iapply Hk
  unfold st dn
  isplitl [HO HatS]
  · iexists _
    isplitl [HO]; · iexact HO
    isplitr; · iexact HrS
    iexact HatS
  isplitl [HatV]; · iexact HatV
  isplitl [HpS] <;> iassumption

/-- An exchange of the reduction: the source rows go with the copy. -/
theorem wp_xchg_give (c : Dev nD) (i : Fin 14) {sm : DmaSem sig} (hsm : sm = rq i) {n : Dev nD} (hn : n = tgt i c)
    (src dst : Memref sig .tc .vmem s .f32) {hs : src.view.WordExact} {hd : dst.view.WordExact}
    {hsc : (dst : Memref sig (Dev.tc n : Thread nD τ).2.kind .vmem s .f32).view.ref.isScScratch = false}
    {ht : DmaTarget.Typed (p := .tc) .vmem (.dma sm) (.remote (Dev.tc n : Thread nD τ) (dst : Memref sig (Dev.tc n : Thread nD τ).2.kind .vmem s .f32) (.dma sendS.sem) hsc)}
    (hNs : src.view.dmaCredit = Nn i) (hNd : dst.view.dmaCredit = Nn i)
    (fs : Buf (Elt F) (src.view.loc (c : Thread nD τ))) (fd : Buf (Elt F) (dst.view.loc (tgt i c : Thread nD τ))) (Fr : sProp 𝕄)
    (h0 : (emp : sProp 𝕄) ⊢ sendPay m ρ c i.val)
    (hpay : iprop(((dst.view.loc (tgt i c : Thread nD τ) ↦[dst.view.set]{fullShare} (dst.view.write (Elt F) fd (src.view.read (Elt F) fs) Finset.univ)) ∗ Fr)
        ∗ (src.view.loc (c : Thread nD τ) ↦[src.view.set]{fullShare} fs)) ⊢ recvPay m ρ (tgt i c) i.val)
    (Q : PUnit → sProp 𝕄) :
    iprop(marks m ρ K ∗ tk c i ∗ st c i.val ∗ (src.view.loc (c : Thread nD τ) ↦[src.view.set]{fullShare} fs)
        ∗ (dst.view.loc (tgt i c : Thread nD τ) ↦[dst.view.set]{fullShare} fd) ∗ Fr)
      ⊢ iprop((st c (i.val + 1) ∗ dn c i ∗ recvPay m ρ c i.val -∗ Q ⟨⟩) -∗ wpc c (xchg sm n src dst hs hd hsc ht) Q) := by
  subst hsm hn
  unfold tk st
  iintro ⟨#HM, ⟨HtS, HtV, HatV, HcV⟩, ⟨%W, HO, #HrS, HatS⟩, Hs, Hd, HF⟩ Hk
  unfold xchg
  simp only [Prog.lift, Prog.bind_op, Prog.bind_ret, Prog.pure_eq_ret]
  iapply (Rounds.wp_send_landing_pointsTo_with 𝒱₀ ER (treeRd m ρ) (c : Thread nD τ) none (κ₁ := K (c, 1)) (κ₂ := K (tgt i c, kx i))
    (r₁ := i.val) (r₂ := 0) (d₁ := 0) (d₂ := 0) (fs := fs) (fd := fd) (F := Fr)
    (by rw [duties_send m ρ c i.val i.isLt]; exact Finset.mem_singleton_self _) (by rw [duties_recv]; exact Finset.mem_singleton_self _)
    () () (Nn i) (show dst.view.amount (SemLoc.dma (rq i)) = Nn i from hNd) (amount_send m ρ c i.val 0) (amount_recv m ρ (tgt i c) i 0 0) (Orest c (i.val + 1)) (Orest_step c i) (W := W)
    (by rw [payload_send]; exact h0) (by rw [payload_recv]; exact hpay)) $$ [Hs Hd HF HO HtS HtV]
  · unfold marks
    icases HM with ⟨#HR, -⟩
    isplitr; · iapply (inv_send m ρ K c); iexact HR
    isplitr; · iapply (inv_recv m ρ K (tgt i c) i); iexact HR
    isplitl [Hs]; · iexact Hs
    isplitl [Hd HF]
    · isplitl [Hd] <;> iassumption
    isplitl [HO]; · iexact HO
    isplitl [HtS]; · iexact HtS
    isplitr; · iexact HrS
    isplitl [HtV]; · iexact HtV
    iapply (reached_recv m ρ K (tgt i c) i); iexact HR
  iintro ⟨HcS, HO⟩
  iapply (wp_waits m ρ K c i src dst hs hd hNs hNd W Q) $$ [HcS HO HatS HatV HcV]
  · isplitr; · iexact HM
    isplitl [HO]; · iexact HO
    isplitl [HcS]; · iexact HcS
    isplitl [HatS]; · iexact HatS
    isplitl [HatV] <;> iassumption
  iintro ⟨Hst, Hdn, -, Hr⟩
  unfold st
  iapply Hk
  isplitl [Hst]; · iexact Hst
  isplitl [Hdn] <;> iassumption

/-- An exchange of the broadcast: the source rows come back with the send wait. -/
theorem wp_xchg_keep (c : Dev nD) (i : Fin 14) {sm : DmaSem sig} (hsm : sm = rq i) {n : Dev nD} (hn : n = tgt i c)
    (src dst : Memref sig .tc .vmem s .f32) {hs : src.view.WordExact} {hd : dst.view.WordExact}
    {hsc : (dst : Memref sig (Dev.tc n : Thread nD τ).2.kind .vmem s .f32).view.ref.isScScratch = false}
    {ht : DmaTarget.Typed (p := .tc) .vmem (.dma sm) (.remote (Dev.tc n : Thread nD τ) (dst : Memref sig (Dev.tc n : Thread nD τ).2.kind .vmem s .f32) (.dma sendS.sem) hsc)}
    (hNs : src.view.dmaCredit = Nn i) (hNd : dst.view.dmaCredit = Nn i)
    (fs : Buf (Elt F) (src.view.loc (c : Thread nD τ))) (fd : Buf (Elt F) (dst.view.loc (tgt i c : Thread nD τ))) (Fr : sProp 𝕄)
    (h0 : (src.view.loc (c : Thread nD τ) ↦[src.view.set]{fullShare} fs) ⊢ sendPay m ρ c i.val)
    (hpay : iprop((dst.view.loc (tgt i c : Thread nD τ) ↦[dst.view.set]{fullShare} (dst.view.write (Elt F) fd (src.view.read (Elt F) fs) Finset.univ)) ∗ Fr)
        ⊢ recvPay m ρ (tgt i c) i.val)
    (Q : PUnit → sProp 𝕄) :
    iprop(marks m ρ K ∗ tk c i ∗ st c i.val ∗ (src.view.loc (c : Thread nD τ) ↦[src.view.set]{fullShare} fs)
        ∗ (dst.view.loc (tgt i c : Thread nD τ) ↦[dst.view.set]{fullShare} fd) ∗ Fr)
      ⊢ iprop((st c (i.val + 1) ∗ dn c i ∗ sendPay m ρ c i.val ∗ recvPay m ρ c i.val -∗ Q ⟨⟩) -∗ wpc c (xchg sm n src dst hs hd hsc ht) Q) := by
  subst hsm hn
  unfold tk st
  iintro ⟨#HM, ⟨HtS, HtV, HatV, HcV⟩, ⟨%W, HO, #HrS, HatS⟩, Hs, Hd, HF⟩ Hk
  unfold xchg
  simp only [Prog.lift, Prog.bind_op, Prog.bind_ret, Prog.pure_eq_ret]
  iapply (Rounds.wp_send_pointsTo_with 𝒱₀ ER (treeRd m ρ) (c : Thread nD τ) none (κ₁ := K (c, 1)) (κ₂ := K (tgt i c, kx i))
    (r₁ := i.val) (r₂ := 0) (d₁ := 0) (d₂ := 0) (fs := fs) (fd := fd) (F := Fr)
    (by rw [duties_send m ρ c i.val i.isLt]; exact Finset.mem_singleton_self _) (by rw [duties_recv]; exact Finset.mem_singleton_self _)
    () () (Nn i) (show dst.view.amount (SemLoc.dma (rq i)) = Nn i from hNd) (amount_send m ρ c i.val 0) (amount_recv m ρ (tgt i c) i 0 0) (Orest c (i.val + 1)) (Orest_step c i) (W := W)
    (by rw [payload_send]; exact h0) (by rw [payload_recv]; exact hpay)) $$ [Hs Hd HF HO HtS HtV]
  · unfold marks
    icases HM with ⟨#HR, -⟩
    isplitr; · iapply (inv_send m ρ K c); iexact HR
    isplitr; · iapply (inv_recv m ρ K (tgt i c) i); iexact HR
    isplitl [Hs]; · iexact Hs
    isplitl [Hd HF]
    · isplitl [Hd] <;> iassumption
    isplitl [HO]; · iexact HO
    isplitl [HtS]; · iexact HtS
    isplitr; · iexact HrS
    isplitl [HtV]; · iexact HtV
    iapply (reached_recv m ρ K (tgt i c) i); iexact HR
  iintro ⟨HcS, HO⟩
  iapply (wp_waits m ρ K c i src dst hs hd hNs hNd W Q) $$ [HcS HO HatS HatV HcV]
  · isplitr; · iexact HM
    isplitl [HO]; · iexact HO
    isplitl [HcS]; · iexact HcS
    isplitl [HatS]; · iexact HatS
    isplitl [HatV] <;> iassumption
  unfold st
  iexact Hk

/-! ## The entry handshake -/

/-- The handshake: this device's three landing buffers go out, its three targets' come in. -/
theorem wp_handshake (c : Dev nD) {n1 n2 n3 : Dev nD} (h1 : n1 = xp c) (h2 : n2 = yl c) (h3 : n3 = zl c) (W : Waits sig Unit) (Q : PUnit → sProp 𝕄) :
    iprop(marks m ρ K ∗ owes (c : Thread nD τ) (O₀ c) W ∗ atPos ER (barCell c) 0 ∅ 0 ∗ cred (tallyAt (barCell c) () 3)
        ∗ dutyTok ER (barCell (xp c)) 0 0 ∗ dutyTok ER (barCell (yl c)) 0 1 ∗ dutyTok ER (barCell (zl c)) 0 2
        ∗ bxA (F := F) c ∗ byA (F := F) c ∗ bzA (F := F) c)
      ⊢ iprop(((∃ W : Waits sig Unit, owes (c : Thread nD τ) (Orest c 0) W) ∗ atPos ER (barCell c) 1 ∅ 0
            ∗ bxA (F := F) (xp c) ∗ byA (F := F) (yr c) ∗ bzA (F := F) (zr c) -∗ Q ⟨⟩)
          -∗ wpc c (handshake n1 n2 n3) Q) := by
  subst h1 h2 h3
  unfold marks handshake O₀
  simp only [semSignalWord, semWaitWord, Prog.lift, Prog.bind_op, Prog.bind_ret, Prog.pure_eq_ret]
  iintro ⟨⟨#HR, #Hlev⟩, HO, HatB, HcB, Ht1, Ht2, Ht3, Hx, Hy, Hz⟩ Hk
  iapply (Rounds.wp_signal 𝒱₀ ER (treeRd m ρ) (c : Thread nD τ) none (dst := (xp c : Thread nD τ)) (κ := K (xp c, 0))
      (d := 0) (by rw [duties_bar]; exact Finset.mem_univ _) ((amount_bar m ρ (xp c) 0).trans (by decide)) () (O1 c) rfl)
    $$ [HO Ht1 Hx]
  · isplitr; · iapply (inv_bar m ρ K (xp c)); iexact HR
    isplitl [HO]; · iexact HO
    isplitl [Ht1]; · iexact Ht1
    isplitl [Hx]; · rw [payload_bar]; unfold barPay; rw [xp_xp]; iexact Hx
    iapply (reached_bar m ρ K (xp c)); iexact HR
  iintro HO
  unfold O1
  iapply (Rounds.wp_signal 𝒱₀ ER (treeRd m ρ) (c : Thread nD τ) none (dst := (yl c : Thread nD τ)) (κ := K (yl c, 0))
      (d := 1) (by rw [duties_bar]; exact Finset.mem_univ _) ((amount_bar m ρ (yl c) 1).trans (by decide)) () (O2 c) rfl)
    $$ [HO Ht2 Hy]
  · isplitr; · iapply (inv_bar m ρ K (yl c)); iexact HR
    isplitl [HO]; · iexact HO
    isplitl [Ht2]; · iexact Ht2
    isplitl [Hy]; · rw [payload_bar]; unfold barPay; rw [yr_yl]; iexact Hy
    iapply (reached_bar m ρ K (yl c)); iexact HR
  iintro HO
  unfold O2
  iapply (Rounds.wp_signal 𝒱₀ ER (treeRd m ρ) (c : Thread nD τ) none (dst := (zl c : Thread nD τ)) (κ := K (zl c, 0))
      (d := 2) (by rw [duties_bar]; exact Finset.mem_univ _) ((amount_bar m ρ (zl c) 2).trans (by decide)) () (Orest c 0) rfl)
    $$ [HO Ht3 Hz]
  · isplitr; · iapply (inv_bar m ρ K (zl c)); iexact HR
    isplitl [HO]; · iexact HO
    isplitl [Ht3]; · iexact Ht3
    isplitl [Hz]; · rw [payload_bar]; unfold barPay; rw [zr_zl]; iexact Hz
    iapply (reached_bar m ρ K (zl c)); iexact HR
  iintro HO
  iapply (Rounds.wp_wait_rest_token 𝒱₀ ER (treeRd m ρ) (c : Thread nD τ) none (κ := K (c, 0))
      (wpE_semWait_eq 𝒱₀ (c : Thread nD τ) none Set.univ) (Set.mem_univ _) () (O := Orest c 0) (W := W) (R := 0) (m := 0) (T := ∅)
      (by rw [expect_bar]; decide)) $$ [HcB HO HatB]
  · isplitr; · iapply (inv_bar m ρ K c); iexact HR
    isplitl [HcB]; · iexact HcB
    isplitl [HO]; · iexact HO
    isplitr; · iapply (mayWait_bar c); iexact Hlev
    iexact HatB
  iintro ⟨HO, HatB, -, Hpay⟩
  ihave Hp := (Entails.of_eq (rest_bar m ρ c)) $$ Hpay
  icases Hp with ⟨Hx, Hy, Hz⟩
  rw [wp_ret]; imodintro
  iapply Hk
  isplitl [HO]; · iexists _; iexact HO
  isplitl [HatB]; · iexact HatB
  isplitl [Hx]; · iexact Hx
  isplitl [Hy] <;> iassumption

end Records

end Cert.TreeProof
-- ==== Proof.Adds.lean ====
/-
# Contents: landings, the copy of `x`, the additions

What a landing or a store makes of a buffer, and the local stages of the kernel: the copy of the block of `x` into
the result buffer and the three kinds of addition.
-/
module

public import proofs.«01_k».proof.Proof.Xchg

@[expose] public section

noncomputable section

namespace Cert.TreeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- Writing through a view what another contents reads there makes that contents on the view's elements. -/
theorem write_on {κ : Kind} {sp : Space} {s : Shape} {e : EltTy} (v : View sig κ sp s e) (f g : v.ty.Contents (Elt F)) (w : s.Idx → Elt F e)
    (h : w = v.read (Elt F) g) : ∀ j ∈ v.set, v.write (Elt F) f w Finset.univ j = g j := by
  intro j hj
  obtain ⟨x, -, rfl⟩ := Finset.mem_map.mp hj
  rw [View.write_emb_of_mem _ _ (Finset.mem_univ x), h, View.read_apply, cast_cast, cast_eq]

/-! ## Slots of the landing buffers, at some contents -/

def bySA (c : Dev nD) (off : Fin 3 → ℕ) (hl : ∀ a, off a + S1x256x1024.size a ≤ S3x256x1024.size a) : sProp 𝕄 :=
  iprop(∃ f : Buf (Elt F) ((bySlot off hl).view.loc (c : Thread nD τ)), ((bySlot off hl).view.loc (c : Thread nD τ) ↦[(bySlot off hl).view.set]{fullShare} f))
def bzSA (c : Dev nD) (off : Fin 3 → ℕ) (hl : ∀ a, off a + S1x64x1024.size a ≤ S3x64x1024.size a) : sProp 𝕄 :=
  iprop(∃ f : Buf (Elt F) ((bzSlot off hl).view.loc (c : Thread nD τ)), ((bzSlot off hl).view.loc (c : Thread nD τ) ↦[(bzSlot off hl).view.set]{fullShare} f))
def bxSA (c : Dev nD) : sProp 𝕄 :=
  iprop(∃ f : Buf (Elt F) (bxM.view.loc (c : Thread nD τ)), (bxM.view.loc (c : Thread nD τ) ↦[bxM.view.set]{fullShare} f))

theorem bxSA_eq (c : Dev nD) : bxSA (F := F) c = bxA c := by
  unfold bxSA bxA
  rw [show (bxM.view.set) = Finset.univ from View.set_whole _]

theorem set_bySlot (s : ℕ) (hl) : (bySlot ![s, 0, 0] hl).view.set = Finset.univ.filter fun i : S3x256x1024.Idx => (i 0).val = s := by
  refine (View.set_reshape _ _).trans ?_
  refine (View.set_slice_whole cc0_scratch1 _).trans ?_
  ext i
  refine Rect.mem_set_unit.trans ?_
  rw [Finset.mem_filter]
  have h1 : (i 1).val < 256 := (i 1).isLt
  have h2 : (i 2).val < 1024 := (i 2).isLt
  constructor
  · intro H
    have H0 : s ≤ (i 0).val ∧ (i 0).val < s + 1 := H 0
    exact ⟨Finset.mem_univ _, by omega⟩
  · rintro ⟨-, H⟩ a
    fin_cases a
    · show s ≤ (i 0).val ∧ (i 0).val < s + 1; omega
    · show 0 ≤ (i 1).val ∧ (i 1).val < 0 + 256; omega
    · show 0 ≤ (i 2).val ∧ (i 2).val < 0 + 1024; omega
theorem set_bzSlot (s : ℕ) (hl) : (bzSlot ![s, 0, 0] hl).view.set = Finset.univ.filter fun i : S3x64x1024.Idx => (i 0).val = s := by
  refine (View.set_reshape _ _).trans ?_
  refine (View.set_slice_whole cc0_scratch2 _).trans ?_
  ext i
  refine Rect.mem_set_unit.trans ?_
  rw [Finset.mem_filter]
  have h1 : (i 1).val < 64 := (i 1).isLt
  have h2 : (i 2).val < 1024 := (i 2).isLt
  constructor
  · intro H
    have H0 : s ≤ (i 0).val ∧ (i 0).val < s + 1 := H 0
    exact ⟨Finset.mem_univ _, by omega⟩
  · rintro ⟨-, H⟩ a
    fin_cases a
    · show s ≤ (i 0).val ∧ (i 0).val < s + 1; omega
    · show 0 ≤ (i 1).val ∧ (i 1).val < 0 + 64; omega
    · show 0 ≤ (i 2).val ∧ (i 2).val < 0 + 1024; omega

theorem by_cover : (Finset.univ : Finset S3x256x1024.Idx)
    = (Finset.univ.filter fun i : S3x256x1024.Idx => (i 0).val = 0) ∪ ((Finset.univ.filter fun i : S3x256x1024.Idx => (i 0).val = 1)
      ∪ (Finset.univ.filter fun i : S3x256x1024.Idx => (i 0).val = 2)) := by
  ext i
  have h : (i 0).val < 3 := (i 0).isLt
  simp only [Finset.mem_univ, Finset.mem_union, Finset.mem_filter, true_and, true_iff]
  omega
theorem bz_cover : (Finset.univ : Finset S3x64x1024.Idx)
    = (Finset.univ.filter fun i : S3x64x1024.Idx => (i 0).val = 0) ∪ ((Finset.univ.filter fun i : S3x64x1024.Idx => (i 0).val = 1)
      ∪ (Finset.univ.filter fun i : S3x64x1024.Idx => (i 0).val = 2)) := by
  ext i
  have h : (i 0).val < 3 := (i 0).isLt
  simp only [Finset.mem_univ, Finset.mem_union, Finset.mem_filter, true_and, true_iff]
  omega

/-- A set of elements of a buffer at some contents splits and joins along a disjoint union. -/
theorem some_union {ℓ : Loc nD τ sig} {I J : Finset (Idx ℓ)} (h : Disjoint I J) :
    (iprop(∃ f : Buf (Elt F) ℓ, (ℓ ↦[I ∪ J]{fullShare} f)) : sProp 𝕄) ⊣⊢ iprop((∃ f : Buf (Elt F) ℓ, ℓ ↦[I]{fullShare} f) ∗ ∃ f : Buf (Elt F) ℓ, ℓ ↦[J]{fullShare} f) := by
  constructor
  · iintro ⟨%f, H⟩
    ihave H' := (pointsTo_union h).1 $$ H
    icases H' with ⟨H1, H2⟩
    isplitl [H1]; · iexists f; iexact H1
    iexists f; iexact H2
  · iintro ⟨⟨%f, H1⟩, ⟨%g, H2⟩⟩
    iexists (J.piecewise g f)
    iapply (pointsTo_join h)
    isplitl [H1] <;> iassumption

theorem by_slots (c : Dev nD) : (byA c : sProp 𝕄) ⊣⊢ iprop(bySA c ![0, 0, 0] inb_S3x256x1024_S1x256x1024_0_0_0
    ∗ bySA c ![1, 0, 0] inb_S3x256x1024_S1x256x1024_1_0_0 ∗ bySA c ![2, 0, 0] inb_S3x256x1024_S1x256x1024_2_0_0) := by
  have h12 : Disjoint (Finset.univ.filter fun i : S3x256x1024.Idx => (i 0).val = 1) (Finset.univ.filter fun i : S3x256x1024.Idx => (i 0).val = 2) := by
    rw [Finset.disjoint_filter]; intro i _ h; omega
  have h0 : Disjoint (Finset.univ.filter fun i : S3x256x1024.Idx => (i 0).val = 0)
      ((Finset.univ.filter fun i : S3x256x1024.Idx => (i 0).val = 1) ∪ (Finset.univ.filter fun i : S3x256x1024.Idx => (i 0).val = 2)) := by
    rw [Finset.disjoint_left]; intro i hi hj
    simp only [Finset.mem_union, Finset.mem_filter, Finset.mem_univ, true_and] at hi hj; omega
  unfold bySA
  rw [set_bySlot, set_bySlot, set_bySlot]
  have key := (some_union (F := F) (ℓ := (c : Thread nD τ).loc cc0_scratch1) h0)
  rw [← by_cover] at key
  have key2 := (some_union (F := F) (ℓ := (c : Thread nD τ).loc cc0_scratch1) h12)
  exact ⟨key.1.trans (sep_mono_right key2.1), (sep_mono_right key2.2).trans key.2⟩
theorem bz_slots (c : Dev nD) : (bzA c : sProp 𝕄) ⊣⊢ iprop(bzSA c ![0, 0, 0] inb_S3x64x1024_S1x64x1024_0_0_0
    ∗ bzSA c ![1, 0, 0] inb_S3x64x1024_S1x64x1024_1_0_0 ∗ bzSA c ![2, 0, 0] inb_S3x64x1024_S1x64x1024_2_0_0) := by
  have h12 : Disjoint (Finset.univ.filter fun i : S3x64x1024.Idx => (i 0).val = 1) (Finset.univ.filter fun i : S3x64x1024.Idx => (i 0).val = 2) := by
    rw [Finset.disjoint_filter]; intro i _ h; omega
  have h0 : Disjoint (Finset.univ.filter fun i : S3x64x1024.Idx => (i 0).val = 0)
      ((Finset.univ.filter fun i : S3x64x1024.Idx => (i 0).val = 1) ∪ (Finset.univ.filter fun i : S3x64x1024.Idx => (i 0).val = 2)) := by
    rw [Finset.disjoint_left]; intro i hi hj
    simp only [Finset.mem_union, Finset.mem_filter, Finset.mem_univ, true_and] at hi hj; omega
  unfold bzSA
  rw [set_bzSlot, set_bzSlot, set_bzSlot]
  have key := (some_union (F := F) (ℓ := (c : Thread nD τ).loc cc0_scratch2) h0)
  rw [← bz_cover] at key
  have key2 := (some_union (F := F) (ℓ := (c : Thread nD τ).loc cc0_scratch2) h12)
  exact ⟨key.1.trans (sep_mono_right key2.1), (sep_mono_right key2.2).trans key.2⟩

/-! ## Rows of the result buffer -/

theorem oP_congr (c : Dev nD) {S : Finset S2048x1024.Idx} {f g : Cont F} (h : ∀ j ∈ S, f j = g j) : (oP c S f : sProp 𝕄) = oP c S g := by
  unfold oP; exact pointsTo_congr h
theorem oP_union (c : Dev nD) {I J : Finset S2048x1024.Idx} (h : Disjoint I J) (f : Cont F) :
    (oP c (I ∪ J) f : sProp 𝕄) ⊣⊢ iprop(oP c I f ∗ oP c J f) := by
  unfold oP; exact pointsTo_union h
theorem oP_oA (c : Dev nD) (S : Finset S2048x1024.Idx) (f : Cont F) : (oP c S f : sProp 𝕄) ⊢ oA c S := by
  unfold oA; iintro H; iexists f; iexact H

/-- The half in its quarters, a quarter in its sixteenths. -/
theorem oP_quarters (c : Dev nD) (f : Cont F) : (oP c (rws (hlo c) 1024) f : sProp 𝕄)
    ⊣⊢ iprop(oP c (rws (qlo c 3) 256) f ∗ oP c (rws (qlo c 2) 256) f ∗ oP c (rws (qlo c 1) 256) f ∗ oP c (rws (qlo c 0) 256) f) := by
  rw [quarters]
  have d1 := quarter_disjoint c (j := 1) (k := 0) (by decide) (by decide) (by decide)
  have d2 : Disjoint (rws (qlo c 2) 256) (rws (qlo c 1) 256 ∪ rws (qlo c 0) 256) :=
    Finset.disjoint_union_right.mpr ⟨quarter_disjoint c (by decide) (by decide) (by decide), quarter_disjoint c (by decide) (by decide) (by decide)⟩
  have d3 : Disjoint (rws (qlo c 3) 256) (rws (qlo c 2) 256 ∪ (rws (qlo c 1) 256 ∪ rws (qlo c 0) 256)) :=
    Finset.disjoint_union_right.mpr ⟨quarter_disjoint c (by decide) (by decide) (by decide),
      Finset.disjoint_union_right.mpr ⟨quarter_disjoint c (by decide) (by decide) (by decide), quarter_disjoint c (by decide) (by decide) (by decide)⟩⟩
  exact ⟨(oP_union c d3 f).1.trans (sep_mono_right ((oP_union c d2 f).1.trans (sep_mono_right (oP_union c d1 f).1))),
    (sep_mono_right ((sep_mono_right (oP_union c d1 f).2).trans (oP_union c d2 f).2)).trans (oP_union c d3 f).2⟩
theorem oP_sixteenths (c : Dev nD) (f : Cont F) : (oP c (rws (qlo c 0) 256) f : sProp 𝕄)
    ⊣⊢ iprop(oP c (rws (slo c 3) 64) f ∗ oP c (rws (slo c 2) 64) f ∗ oP c (rws (slo c 1) 64) f ∗ oP c (rws (slo c 0) 64) f) := by
  rw [sixteenths]
  have d1 := sixteenth_disjoint c (j := 1) (k := 0) (by decide) (by decide) (by decide)
  have d2 : Disjoint (rws (slo c 2) 64) (rws (slo c 1) 64 ∪ rws (slo c 0) 64) :=
    Finset.disjoint_union_right.mpr ⟨sixteenth_disjoint c (by decide) (by decide) (by decide), sixteenth_disjoint c (by decide) (by decide) (by decide)⟩
  have d3 : Disjoint (rws (slo c 3) 64) (rws (slo c 2) 64 ∪ (rws (slo c 1) 64 ∪ rws (slo c 0) 64)) :=
    Finset.disjoint_union_right.mpr ⟨sixteenth_disjoint c (by decide) (by decide) (by decide),
      Finset.disjoint_union_right.mpr ⟨sixteenth_disjoint c (by decide) (by decide) (by decide), sixteenth_disjoint c (by decide) (by decide) (by decide)⟩⟩
  exact ⟨(oP_union c d3 f).1.trans (sep_mono_right ((oP_union c d2 f).1.trans (sep_mono_right (oP_union c d1 f).1))),
    (sep_mono_right ((sep_mono_right (oP_union c d1 f).2).trans (oP_union c d2 f).2)).trans (oP_union c d3 f).2⟩
theorem oP_halves (c : Dev nD) (f : Cont F) : (oP c Finset.univ f : sProp 𝕄) ⊣⊢ iprop(oP c (rws (hlo' c) 1024) f ∗ oP c (rws (hlo c) 1024) f) := by
  rw [halves c]; exact oP_union c (halves_disjoint c) f

/-- Owned rows are a view's elements. -/
theorem oP_half (c : Dev nD) (a : ℕ) (h) (f : Cont F) : ((oHalf ![a, 0] h).view.loc (c : Thread nD τ) ↦[(oHalf ![a, 0] h).view.set]{fullShare} f : sProp 𝕄)
    = oP c (rws a 1024) f := by rw [set_oHalf]; rfl
theorem oP_quar (c : Dev nD) (a : ℕ) (h) (f : Cont F) : ((oQuar ![a, 0] h).view.loc (c : Thread nD τ) ↦[(oQuar ![a, 0] h).view.set]{fullShare} f : sProp 𝕄)
    = oP c (rws a 256) f := by rw [set_oQuar]; rfl
theorem oP_sub (c : Dev nD) (a : ℕ) (h) (f : Cont F) : ((oSub ![a, 0] h).view.loc (c : Thread nD τ) ↦[(oSub ![a, 0] h).view.set]{fullShare} f : sProp 𝕄)
    = oP c (rws a 64) f := by rw [set_oSub]; rfl

/-! ## The local stages -/

abbrev rHalf (off : Fin 2 → ℕ) (h : ∀ a, off a + S1024x1024.size a ≤ S2048x1024.size a) : Rect S2048x1024 := Rect.unit (s := S2048x1024) off S1024x1024.size h
abbrev rQuar (off : Fin 2 → ℕ) (h : ∀ a, off a + S256x1024.size a ≤ S2048x1024.size a) : Rect S2048x1024 := Rect.unit (s := S2048x1024) off S256x1024.size h
abbrev rSub (off : Fin 2 → ℕ) (h : ∀ a, off a + S64x1024.size a ≤ S2048x1024.size a) : Rect S2048x1024 := Rect.unit (s := S2048x1024) off S64x1024.size h

theorem sc_self {s : Shape} (v : Vec F s .f32) (h) : shapeCast s v h = v := by
  funext j; unfold shapeCast; congr 1; exact Shape.reshapeEquiv_self _ _

theorem wp_addHalf (c : Dev nD) (a : ℕ) {off : Fin 2 → ℕ} {h} (hoff : off = ![a, 0]) (f V g' : Cont F) (hg' : g' = fun j => FloatOps.addf (f j) (V j)) (Q : PUnit → sProp 𝕄) :
    iprop(oP c (rws a 1024) f ∗ bxP c a V)
      ⊢ iprop((oP c (rws a 1024) g' ∗ bxSA c -∗ Q ⟨⟩) -∗ wpc c (addHalf off h) Q) := by
  subst hoff hg'
  unfold bxP addHalf bxSA
  rw [← oP_half c a h]
  rw [← oP_half c a h]
  simp only [Prog.lift, Prog.bind_op, Prog.bind_ret, Prog.pure_eq_ret]
  iintro ⟨Ho, ⟨%g, %hg, Hb⟩⟩ Hk
  iapply (wp_load_rect 𝒱₀ (c : Thread nD τ) none Set.univ (m := oM) (r := rHalf ![a, 0] h) subset_rfl) $$ Ho; iintro Ho
  iapply (wp_load 𝒱₀ (c : Thread nD τ) none Set.univ (m := bxM) (by rw [View.set_whole]; exact Finset.subset_univ _)) $$ Hb; iintro Hb
  iapply (wp_load_rect 𝒱₀ (c : Thread nD τ) none Set.univ (m := oM) (r := rHalf ![a, 0] h) subset_rfl) $$ Ho; iintro Ho
  iapply (wp_store 𝒱₀ (c : Thread nD τ) none Set.univ (m := oM) (r := rHalf ![a, 0] h) (Mk := Finset.univ) (by rw [View.setOn_univ])) $$ Ho; iintro Ho
  rw [wp_ret]; imodintro
  iapply Hk
  isplitl [Ho]
  · have hb : (bxM.view.readAt (Elt F) (Rect.unit (s := S1024x1024) ![0, 0] S1024x1024.size inb_S1024x1024_S1024x1024_0_0).toLoadRect g)
        = (oHalf ![a, 0] h).view.read (Elt F) V := by
      rw [← hg h]
      exact (Memref.readAt_unit_zero (Elt F) cc0_scratch0 (funext fun a => by fin_cases a <;> rfl) _ _).trans rfl
    rw [hb]
    have hw : k0_pay2 ((oHalf ![a, 0] h).view.read (Elt F) f) ((oHalf ![a, 0] h).view.read (Elt F) V)
        = (oHalf ![a, 0] h).view.read (Elt F) (fun j => FloatOps.addf (f j) (V j)) := by
      unfold k0_pay2
      rw [sc_self]; rfl
    iapply (Entails.of_eq (pointsTo_congr (write_on (oHalf ![a, 0] h).view f (fun j => FloatOps.addf (f j) (V j)) _ hw))) $$ Ho
  · iexists g; iexact Hb

theorem wp_addQuar (c : Dev nD) (a : ℕ) {off : Fin 2 → ℕ} {h} (hoff : off = ![a, 0]) (sl : Fin 3 → ℕ) (hl) (f V g' : Cont F) (hg' : g' = fun j => FloatOps.addf (f j) (V j)) (Q : PUnit → sProp 𝕄) :
    iprop(oP c (rws a 256) f ∗ byP c sl hl a V)
      ⊢ iprop((oP c (rws a 256) g' ∗ bySA c sl hl -∗ Q ⟨⟩) -∗ wpc c (addQuar off h sl hl) Q) := by
  subst hoff hg'
  unfold byP addQuar bySA
  rw [← oP_quar c a h]
  rw [← oP_quar c a h]
  simp only [Prog.lift, Prog.bind_op, Prog.bind_ret, Prog.pure_eq_ret]
  iintro ⟨Ho, ⟨%g, %hg, Hb⟩⟩ Hk
  iapply (wp_load_rect 𝒱₀ (c : Thread nD τ) none Set.univ (m := oM) (r := rQuar ![a, 0] h) subset_rfl) $$ Ho; iintro Ho
  iapply (wp_load_rect 𝒱₀ (c : Thread nD τ) none Set.univ (m := byM) (r := Rect.unit (s := S3x256x1024) sl S1x256x1024.size hl)
    (S := (bySlot sl hl).view.set) (by rw [View.set_reshape])) $$ Hb; iintro Hb
  iapply (wp_load_rect 𝒱₀ (c : Thread nD τ) none Set.univ (m := oM) (r := rQuar ![a, 0] h) subset_rfl) $$ Ho; iintro Ho
  iapply (wp_store 𝒱₀ (c : Thread nD τ) none Set.univ (m := oM) (r := rQuar ![a, 0] h) (Mk := Finset.univ) (by rw [View.setOn_univ])) $$ Ho; iintro Ho
  rw [wp_ret]; imodintro
  iapply Hk
  isplitl [Ho]
  · have hb : shapeCast S256x1024 ((byM.access (Rect.unit (s := S3x256x1024) sl S1x256x1024.size hl)).read (Elt F) g) shapeCasts_S1x256x1024_S256x1024
        = (oQuar ![a, 0] h).view.read (Elt F) V := by
      rw [← hg h]; rfl
    have hw : k0_pay3 ((oQuar ![a, 0] h).view.read (Elt F) f) ((byM.access (Rect.unit (s := S3x256x1024) sl S1x256x1024.size hl)).read (Elt F) g)
        = (oQuar ![a, 0] h).view.read (Elt F) (fun j => FloatOps.addf (f j) (V j)) := by
      unfold k0_pay3
      rw [sc_self]; dsimp only; rw [hb]; rfl
    iapply (Entails.of_eq (pointsTo_congr (write_on (oQuar ![a, 0] h).view f (fun j => FloatOps.addf (f j) (V j)) _ hw))) $$ Ho
  · iexists g; iexact Hb

theorem wp_addSub (c : Dev nD) (a : ℕ) {off : Fin 2 → ℕ} {h} (hoff : off = ![a, 0]) (sl : Fin 3 → ℕ) (hl) (f V g' : Cont F) (hg' : g' = fun j => FloatOps.addf (f j) (V j)) (Q : PUnit → sProp 𝕄) :
    iprop(oP c (rws a 64) f ∗ bzP c sl hl a V)
      ⊢ iprop((oP c (rws a 64) g' ∗ bzSA c sl hl -∗ Q ⟨⟩) -∗ wpc c (addSub off h sl hl) Q) := by
  subst hoff hg'
  unfold bzP addSub bzSA
  rw [← oP_sub c a h]
  rw [← oP_sub c a h]
  simp only [Prog.lift, Prog.bind_op, Prog.bind_ret, Prog.pure_eq_ret]
  iintro ⟨Ho, ⟨%g, %hg, Hb⟩⟩ Hk
  iapply (wp_load_rect 𝒱₀ (c : Thread nD τ) none Set.univ (m := oM) (r := rSub ![a, 0] h) subset_rfl) $$ Ho; iintro Ho
  iapply (wp_load_rect 𝒱₀ (c : Thread nD τ) none Set.univ (m := bzM) (r := Rect.unit (s := S3x64x1024) sl S1x64x1024.size hl)
    (S := (bzSlot sl hl).view.set) (by rw [View.set_reshape])) $$ Hb; iintro Hb
  iapply (wp_load_rect 𝒱₀ (c : Thread nD τ) none Set.univ (m := oM) (r := rSub ![a, 0] h) subset_rfl) $$ Ho; iintro Ho
  iapply (wp_store 𝒱₀ (c : Thread nD τ) none Set.univ (m := oM) (r := rSub ![a, 0] h) (Mk := Finset.univ) (by rw [View.setOn_univ])) $$ Ho; iintro Ho
  rw [wp_ret]; imodintro
  iapply Hk
  isplitl [Ho]
  · have hb : shapeCast S64x1024 ((bzM.access (Rect.unit (s := S3x64x1024) sl S1x64x1024.size hl)).read (Elt F) g) shapeCasts_S1x64x1024_S64x1024
        = (oSub ![a, 0] h).view.read (Elt F) V := by
      rw [← hg h]; rfl
    have hw : k0_pay6 ((oSub ![a, 0] h).view.read (Elt F) f) ((bzM.access (Rect.unit (s := S3x64x1024) sl S1x64x1024.size hl)).read (Elt F) g)
        = (oSub ![a, 0] h).view.read (Elt F) (fun j => FloatOps.addf (f j) (V j)) := by
      unfold k0_pay6
      rw [sc_self]; dsimp only; rw [hb]; rfl
    iapply (Entails.of_eq (pointsTo_congr (write_on (oSub ![a, 0] h).view f (fun j => FloatOps.addf (f j) (V j)) _ hw))) $$ Ho
  · iexists g; iexact Hb

/-- The block of `x` goes into the result buffer. -/
theorem wp_fill (c : Dev nD) (g : Cont F) (Q : PUnit → sProp 𝕄) :
    iprop((((c : Thread nD τ).loc cc0_stg0_0) ↦{fullShare} (xstg m ρ c)) ∗ oP c Finset.univ g)
      ⊢ iprop(((((c : Thread nD τ).loc cc0_stg0_0) ↦{fullShare} (xstg m ρ c)) ∗ oP c Finset.univ (X m ρ c) -∗ Q ⟨⟩) -∗ wpc c fill Q) := by
  unfold fill oP
  simp only [Prog.lift, Prog.bind_op, Prog.bind_ret, Prog.pure_eq_ret]
  iintro ⟨Hx, Ho⟩ Hk
  iapply (wp_load 𝒱₀ (c : Thread nD τ) none Set.univ (m := xM) (Finset.subset_univ _)) $$ Hx; iintro Hx
  rw [show (xM.view.readAt (Elt F) (Rect.unit (s := S1x2048x1024) ![0, 0, 0] S1x2048x1024.size inb_S1x2048x1024_S1x2048x1024_0_0_0).toLoadRect (xstg m ρ c))
      = xstg m ρ c from Memref.readAt_unit_zero (Elt F) cc0_stg0_0 (funext fun a => by fin_cases a <;> rfl) _ _]
  iapply (wp_load 𝒱₀ (c : Thread nD τ) none Set.univ (m := oM) (Finset.subset_univ _)) $$ Ho; iintro Ho
  iapply (wp_store 𝒱₀ (c : Thread nD τ) none Set.univ (m := oM) (r := Rect.unit (s := S2048x1024) ![0, 0] S2048x1024.size inb_S2048x1024_S2048x1024_0_0)
    (Mk := Finset.univ) (Finset.subset_univ _)) $$ Ho; iintro Ho
  rw [show ((oM.access (Rect.unit (s := S2048x1024) ![0, 0] S2048x1024.size inb_S2048x1024_S2048x1024_0_0)).write (Elt F) g (k0_pay1 (xstg m ρ c)) Finset.univ)
      = X m ρ c from Memref.write_access_unit_zero_univ (Elt F) cc0_stg1_0 (funext fun a => by fin_cases a <;> rfl) _ _ _, wp_ret]; imodintro
  iapply Hk
  isplitl [Hx]; · iexact Hx
  iexact Ho

end Cert.TreeProof
-- ==== Proof.Steps.lean ====
/-
# The exchanges by kind

The exchange of `Xchg` at each kind of copy the kernel makes: rows given away into a landing buffer (a half, a quarter,
a sixteenth), and rows of the result written into the same rows of a peer.
-/
module

public import proofs.«01_k».proof.Proof.Adds

@[expose] public section

noncomputable section

namespace Cert.TreeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Credits -/

theorem credit_half (off h) : (oHalf off h).view.dmaCredit = NX := rfl
theorem credit_quar (off h) : (oQuar off h).view.dmaCredit = NY := rfl
theorem credit_sub (off h) : (oSub off h).view.dmaCredit = NZ := rfl
theorem credit_by (off h) : (bySlot off h).view.dmaCredit = NY := rfl
theorem credit_bz (off h) : (bzSlot off h).view.dmaCredit = NZ := rfl

section Kinds
variable (K : Dev nD × Fin 16 → ℕ) (c : Dev nD) (i : Fin 14) {sm : DmaSem sig} (hsm : sm = rq i) {n : Dev nD} (hn : n = tgt i c)
  (a : ℕ) {off : Fin 2 → ℕ} (hoff : off = ![a, 0])
include hsm hn hoff

/-! ## Rows given away -/

theorem wp_give_half {h} {hs : (oHalf off h).view.WordExact} {hd : bxM.view.WordExact}
    {hsc : (bxM : Memref sig (Dev.tc n : Thread nD τ).2.kind .vmem S1024x1024 .f32).view.ref.isScScratch = false}
    {ht : DmaTarget.Typed (p := .tc) .vmem (.dma sm) (.remote (Dev.tc n : Thread nD τ) (bxM : Memref sig (Dev.tc n : Thread nD τ).2.kind .vmem S1024x1024 .f32) (.dma sendS.sem) hsc)}
    (hN : Nn i = NX) (h0 : sendPay m ρ c i.val = iprop(emp)) (V : Cont F) (Fr : sProp 𝕄)
    (hpay : iprop(bxP (tgt i c) a V ∗ oA c (rws a 1024) ∗ Fr) ⊢ recvPay m ρ (tgt i c) i.val) (Q : PUnit → sProp 𝕄) :
    iprop(marks m ρ K ∗ tk c i ∗ st c i.val ∗ oP c (rws a 1024) V ∗ bxSA (F := F) (tgt i c) ∗ Fr)
      ⊢ iprop((st c (i.val + 1) ∗ dn c i ∗ recvPay m ρ c i.val -∗ Q ⟨⟩) -∗ wpc c (xchg sm n (oHalf off h) bxM hs hd hsc ht) Q) := by
  subst hoff
  unfold bxSA
  iintro ⟨HM, Htk, Hst, Hs, ⟨%fd, Hd⟩, HF⟩
  iapply (wp_xchg_give m ρ K c i hsm hn (oHalf ![a, 0] h) bxM ((credit_half _ _).trans hN.symm) hN.symm V fd Fr
    (by rw [h0]) (by
      rw [oP_half]
      refine BIBase.Entails.trans ?_ hpay
      iintro ⟨⟨Hd, HF⟩, Hs⟩
      isplitl [Hd]
      · unfold bxP
        iexists (bxM.view.write (Elt F) fd ((oHalf ![a, 0] h).view.read (Elt F) V) Finset.univ)
        isplitr
        · ipureintro; intro h'; exact View.read_write_univ _ _
        · iexact Hd
      isplitl [Hs]
      · iapply (oP_oA c (rws a 1024) V); iexact Hs
      · iexact HF) Q)
  isplitl [HM]; · iexact HM
  isplitl [Htk]; · iexact Htk
  isplitl [Hst]; · iexact Hst
  isplitl [Hs]; · rw [oP_half]; iexact Hs
  isplitl [Hd] <;> iassumption

theorem wp_give_quar {h} {sl : Fin 3 → ℕ} {hl} {hs : (oQuar off h).view.WordExact} {hd : (bySlot sl hl).view.WordExact}
    {hsc : (bySlot sl hl : Memref sig (Dev.tc n : Thread nD τ).2.kind .vmem S256x1024 .f32).view.ref.isScScratch = false}
    {ht : DmaTarget.Typed (p := .tc) .vmem (.dma sm) (.remote (Dev.tc n : Thread nD τ) (bySlot sl hl : Memref sig (Dev.tc n : Thread nD τ).2.kind .vmem S256x1024 .f32) (.dma sendS.sem) hsc)}
    (hN : Nn i = NY) (h0 : sendPay m ρ c i.val = iprop(emp)) (V : Cont F) (Fr : sProp 𝕄)
    (hpay : iprop(byP (tgt i c) sl hl a V ∗ oA c (rws a 256) ∗ Fr) ⊢ recvPay m ρ (tgt i c) i.val) (Q : PUnit → sProp 𝕄) :
    iprop(marks m ρ K ∗ tk c i ∗ st c i.val ∗ oP c (rws a 256) V ∗ bySA (F := F) (tgt i c) sl hl ∗ Fr)
      ⊢ iprop((st c (i.val + 1) ∗ dn c i ∗ recvPay m ρ c i.val -∗ Q ⟨⟩) -∗ wpc c (xchg sm n (oQuar off h) (bySlot sl hl) hs hd hsc ht) Q) := by
  subst hoff
  unfold bySA
  iintro ⟨HM, Htk, Hst, Hs, ⟨%fd, Hd⟩, HF⟩
  iapply (wp_xchg_give m ρ K c i hsm hn (oQuar ![a, 0] h) (bySlot sl hl) ((credit_quar _ _).trans hN.symm) ((credit_by _ _).trans hN.symm) V fd Fr
    (by rw [h0]) (by
      rw [oP_quar]
      refine BIBase.Entails.trans ?_ hpay
      iintro ⟨⟨Hd, HF⟩, Hs⟩
      isplitl [Hd]
      · unfold byP
        iexists ((bySlot sl hl).view.write (Elt F) fd ((oQuar ![a, 0] h).view.read (Elt F) V) Finset.univ)
        isplitr
        · ipureintro; intro h'; exact View.read_write_univ _ _
        · iexact Hd
      isplitl [Hs]
      · iapply (oP_oA c (rws a 256) V); iexact Hs
      · iexact HF) Q)
  isplitl [HM]; · iexact HM
  isplitl [Htk]; · iexact Htk
  isplitl [Hst]; · iexact Hst
  isplitl [Hs]; · rw [oP_quar]; iexact Hs
  isplitl [Hd] <;> iassumption

theorem wp_give_sub {h} {sl : Fin 3 → ℕ} {hl} {hs : (oSub off h).view.WordExact} {hd : (bzSlot sl hl).view.WordExact}
    {hsc : (bzSlot sl hl : Memref sig (Dev.tc n : Thread nD τ).2.kind .vmem S64x1024 .f32).view.ref.isScScratch = false}
    {ht : DmaTarget.Typed (p := .tc) .vmem (.dma sm) (.remote (Dev.tc n : Thread nD τ) (bzSlot sl hl : Memref sig (Dev.tc n : Thread nD τ).2.kind .vmem S64x1024 .f32) (.dma sendS.sem) hsc)}
    (hN : Nn i = NZ) (h0 : sendPay m ρ c i.val = iprop(emp)) (V : Cont F) (Fr : sProp 𝕄)
    (hpay : iprop(bzP (tgt i c) sl hl a V ∗ oA c (rws a 64) ∗ Fr) ⊢ recvPay m ρ (tgt i c) i.val) (Q : PUnit → sProp 𝕄) :
    iprop(marks m ρ K ∗ tk c i ∗ st c i.val ∗ oP c (rws a 64) V ∗ bzSA (F := F) (tgt i c) sl hl ∗ Fr)
      ⊢ iprop((st c (i.val + 1) ∗ dn c i ∗ recvPay m ρ c i.val -∗ Q ⟨⟩) -∗ wpc c (xchg sm n (oSub off h) (bzSlot sl hl) hs hd hsc ht) Q) := by
  subst hoff
  unfold bzSA
  iintro ⟨HM, Htk, Hst, Hs, ⟨%fd, Hd⟩, HF⟩
  iapply (wp_xchg_give m ρ K c i hsm hn (oSub ![a, 0] h) (bzSlot sl hl) ((credit_sub _ _).trans hN.symm) ((credit_bz _ _).trans hN.symm) V fd Fr
    (by rw [h0]) (by
      rw [oP_sub]
      refine BIBase.Entails.trans ?_ hpay
      iintro ⟨⟨Hd, HF⟩, Hs⟩
      isplitl [Hd]
      · unfold bzP
        iexists ((bzSlot sl hl).view.write (Elt F) fd ((oSub ![a, 0] h).view.read (Elt F) V) Finset.univ)
        isplitr
        · ipureintro; intro h'; exact View.read_write_univ _ _
        · iexact Hd
      isplitl [Hs]
      · iapply (oP_oA c (rws a 64) V); iexact Hs
      · iexact HF) Q)
  isplitl [HM]; · iexact HM
  isplitl [Htk]; · iexact Htk
  isplitl [Hst]; · iexact Hst
  isplitl [Hs]; · rw [oP_sub]; iexact Hs
  isplitl [Hd] <;> iassumption

/-! ## Rows of the result broadcast -/

theorem wp_keep_half {h} {hs hd : (oHalf off h).view.WordExact}
    {hsc : (oHalf off h : Memref sig (Dev.tc n : Thread nD τ).2.kind .vmem S1024x1024 .f32).view.ref.isScScratch = false}
    {ht : DmaTarget.Typed (p := .tc) .vmem (.dma sm) (.remote (Dev.tc n : Thread nD τ) (oHalf off h : Memref sig (Dev.tc n : Thread nD τ).2.kind .vmem S1024x1024 .f32) (.dma sendS.sem) hsc)}
    (hN : Nn i = NX) (V : Cont F) (Fr : sProp 𝕄) (h0 : (oP c (rws a 1024) V : sProp 𝕄) ⊢ sendPay m ρ c i.val)
    (hpay : iprop(oP (tgt i c) (rws a 1024) V ∗ Fr) ⊢ recvPay m ρ (tgt i c) i.val) (Q : PUnit → sProp 𝕄) :
    iprop(marks m ρ K ∗ tk c i ∗ st c i.val ∗ oP c (rws a 1024) V ∗ oA (F := F) (tgt i c) (rws a 1024) ∗ Fr)
      ⊢ iprop((st c (i.val + 1) ∗ dn c i ∗ sendPay m ρ c i.val ∗ recvPay m ρ c i.val -∗ Q ⟨⟩)
        -∗ wpc c (xchg sm n (oHalf off h) (oHalf off h) hs hd hsc ht) Q) := by
  subst hoff
  unfold oA
  iintro ⟨HM, Htk, Hst, Hs, ⟨%fd, Hd⟩, HF⟩
  iapply (wp_xchg_keep m ρ K c i hsm hn (oHalf ![a, 0] h) (oHalf ![a, 0] h) ((credit_half _ _).trans hN.symm) ((credit_half _ _).trans hN.symm) V fd Fr
    (by rw [oP_half]; exact h0) (by
      refine BIBase.Entails.trans (sep_mono_left ?_) hpay
      rw [← oP_half _ a h]
      exact Entails.of_eq (pointsTo_congr (write_on (oHalf ![a, 0] h).view fd V _ rfl))) Q)
  isplitl [HM]; · iexact HM
  isplitl [Htk]; · iexact Htk
  isplitl [Hst]; · iexact Hst
  isplitl [Hs]; · rw [oP_half]; iexact Hs
  isplitl [Hd]; · rw [oP_half]; iexact Hd
  iexact HF

theorem wp_keep_quar {h} {hs hd : (oQuar off h).view.WordExact}
    {hsc : (oQuar off h : Memref sig (Dev.tc n : Thread nD τ).2.kind .vmem S256x1024 .f32).view.ref.isScScratch = false}
    {ht : DmaTarget.Typed (p := .tc) .vmem (.dma sm) (.remote (Dev.tc n : Thread nD τ) (oQuar off h : Memref sig (Dev.tc n : Thread nD τ).2.kind .vmem S256x1024 .f32) (.dma sendS.sem) hsc)}
    (hN : Nn i = NY) (V : Cont F) (Fr : sProp 𝕄) (h0 : (oP c (rws a 256) V : sProp 𝕄) ⊢ sendPay m ρ c i.val)
    (hpay : iprop(oP (tgt i c) (rws a 256) V ∗ Fr) ⊢ recvPay m ρ (tgt i c) i.val) (Q : PUnit → sProp 𝕄) :
    iprop(marks m ρ K ∗ tk c i ∗ st c i.val ∗ oP c (rws a 256) V ∗ oA (F := F) (tgt i c) (rws a 256) ∗ Fr)
      ⊢ iprop((st c (i.val + 1) ∗ dn c i ∗ sendPay m ρ c i.val ∗ recvPay m ρ c i.val -∗ Q ⟨⟩)
        -∗ wpc c (xchg sm n (oQuar off h) (oQuar off h) hs hd hsc ht) Q) := by
  subst hoff
  unfold oA
  iintro ⟨HM, Htk, Hst, Hs, ⟨%fd, Hd⟩, HF⟩
  iapply (wp_xchg_keep m ρ K c i hsm hn (oQuar ![a, 0] h) (oQuar ![a, 0] h) ((credit_quar _ _).trans hN.symm) ((credit_quar _ _).trans hN.symm) V fd Fr
    (by rw [oP_quar]; exact h0) (by
      refine BIBase.Entails.trans (sep_mono_left ?_) hpay
      rw [← oP_quar _ a h]
      exact Entails.of_eq (pointsTo_congr (write_on (oQuar ![a, 0] h).view fd V _ rfl))) Q)
  isplitl [HM]; · iexact HM
  isplitl [Htk]; · iexact Htk
  isplitl [Hst]; · iexact Hst
  isplitl [Hs]; · rw [oP_quar]; iexact Hs
  isplitl [Hd]; · rw [oP_quar]; iexact Hd
  iexact HF

theorem wp_keep_sub {h} {hs hd : (oSub off h).view.WordExact}
    {hsc : (oSub off h : Memref sig (Dev.tc n : Thread nD τ).2.kind .vmem S64x1024 .f32).view.ref.isScScratch = false}
    {ht : DmaTarget.Typed (p := .tc) .vmem (.dma sm) (.remote (Dev.tc n : Thread nD τ) (oSub off h : Memref sig (Dev.tc n : Thread nD τ).2.kind .vmem S64x1024 .f32) (.dma sendS.sem) hsc)}
    (hN : Nn i = NZ) (V : Cont F) (Fr : sProp 𝕄) (h0 : (oP c (rws a 64) V : sProp 𝕄) ⊢ sendPay m ρ c i.val)
    (hpay : iprop(oP (tgt i c) (rws a 64) V ∗ Fr) ⊢ recvPay m ρ (tgt i c) i.val) (Q : PUnit → sProp 𝕄) :
    iprop(marks m ρ K ∗ tk c i ∗ st c i.val ∗ oP c (rws a 64) V ∗ oA (F := F) (tgt i c) (rws a 64) ∗ Fr)
      ⊢ iprop((st c (i.val + 1) ∗ dn c i ∗ sendPay m ρ c i.val ∗ recvPay m ρ c i.val -∗ Q ⟨⟩)
        -∗ wpc c (xchg sm n (oSub off h) (oSub off h) hs hd hsc ht) Q) := by
  subst hoff
  unfold oA
  iintro ⟨HM, Htk, Hst, Hs, ⟨%fd, Hd⟩, HF⟩
  iapply (wp_xchg_keep m ρ K c i hsm hn (oSub ![a, 0] h) (oSub ![a, 0] h) ((credit_sub _ _).trans hN.symm) ((credit_sub _ _).trans hN.symm) V fd Fr
    (by rw [oP_sub]; exact h0) (by
      refine BIBase.Entails.trans (sep_mono_left ?_) hpay
      rw [← oP_sub _ a h]
      exact Entails.of_eq (pointsTo_congr (write_on (oSub ![a, 0] h).view fd V _ rfl))) Q)
  isplitl [HM]; · iexact HM
  isplitl [Htk]; · iexact Htk
  isplitl [Hst]; · iexact Hst
  isplitl [Hs]; · rw [oP_sub]; iexact Hs
  isplitl [Hd]; · rw [oP_sub]; iexact Hd
  iexact HF

end Kinds

end Cert.TreeProof
-- ==== Proof.Pays.lean ====
/-
# The hand-overs, sender and receiver side

What the sender of an exchange puts in is what the schedule says its target receives.
-/
module

public import proofs.«01_k».proof.Proof.Steps

@[expose] public section

noncomputable section

namespace Cert.TreeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Rows seen from the receiver -/

theorem qlo_yr2 (c : Dev nD) : qlo (yr c) 2 = qlo c 3 := by rw [← qlo_yl3, yl_yr]
theorem qlo_yr1 (c : Dev nD) : qlo (yr c) 1 = qlo c 2 := by rw [← qlo_yl2, yl_yr]
theorem qlo_yr0 (c : Dev nD) : qlo (yr c) 0 = qlo c 1 := by rw [← qlo_yl1, yl_yr]
theorem qlo_yr3 (c : Dev nD) : qlo (yr c) 3 = qlo c 0 := by rw [← qlo_yl0, yl_yr]
theorem slo_zr2 (c : Dev nD) : slo (zr c) 2 = slo c 3 := by rw [← slo_zl3, zl_zr]
theorem slo_zr1 (c : Dev nD) : slo (zr c) 1 = slo c 2 := by rw [← slo_zl2, zl_zr]
theorem slo_zr0 (c : Dev nD) : slo (zr c) 0 = slo c 1 := by rw [← slo_zl1, zl_zr]
theorem slo_zr3 (c : Dev nD) : slo (zr c) 3 = slo c 0 := by rw [← slo_zl0, zl_zr]

section Pay
variable (c : Dev nD)

theorem recv_0 : (recvPay m ρ c (0 : Fin 14).val : sProp 𝕄) = iprop(bxP c (hlo c) (X m ρ (xp c)) ∗ oA (xp c) (rws (hlo c) 1024)) := rfl
theorem pay_0 : (iprop(bxP (xp c) (hlo' c) (X m ρ c) ∗ oA c (rws (hlo' c) 1024) ∗ emp) : sProp 𝕄) ⊢ recvPay m ρ (tgt 0 c) (0 : Fin 14).val := by
  rw [show tgt 0 c = xp c from rfl, recv_0, xp_xp, hlo_xp]
  iintro ⟨H1, H2, -⟩
  isplitl [H1] <;> iassumption
theorem recv_1 : (recvPay m ρ c (1 : Fin 14).val : sProp 𝕄) = iprop(byP c ![0, 0, 0] inb_S3x256x1024_S1x256x1024_0_0_0 (qlo c 2) (YS m ρ 0 (yl c)) ∗ oA (yl c) (rws (qlo c 2) 256)) := rfl
theorem pay_1 : (iprop(byP (yr c) ![0, 0, 0] inb_S3x256x1024_S1x256x1024_0_0_0 (qlo c 3) (YS m ρ 0 c) ∗ oA c (rws (qlo c 3) 256) ∗ emp) : sProp 𝕄) ⊢ recvPay m ρ (tgt 1 c) (1 : Fin 14).val := by
  rw [show tgt 1 c = yr c from rfl, recv_1, yl_yr, qlo_yr2]
  iintro ⟨H1, H2, -⟩
  isplitl [H1] <;> iassumption
theorem recv_2 : (recvPay m ρ c (2 : Fin 14).val : sProp 𝕄) = iprop(byP c ![1, 0, 0] inb_S3x256x1024_S1x256x1024_1_0_0 (qlo c 1) (YS m ρ 1 (yl c)) ∗ oA (yl c) (rws (qlo c 1) 256) ∗ oA (yl (yl c)) (rws (qlo c 1) 256)) := rfl
theorem pay_2 : (iprop(byP (yr c) ![1, 0, 0] inb_S3x256x1024_S1x256x1024_1_0_0 (qlo c 2) (YS m ρ 1 c) ∗ oA c (rws (qlo c 2) 256) ∗ oA (yl c) (rws (qlo c 2) 256)) : sProp 𝕄) ⊢ recvPay m ρ (tgt 2 c) (2 : Fin 14).val := by
  rw [show tgt 2 c = yr c from rfl, recv_2, yl_yr, qlo_yr1]
theorem recv_3 : (recvPay m ρ c (3 : Fin 14).val : sProp 𝕄) = iprop(byP c ![2, 0, 0] inb_S3x256x1024_S1x256x1024_2_0_0 (qlo c 0) (YS m ρ 2 (yl c)) ∗ oA (yl c) (rws (qlo c 0) 256) ∗ oA (yl (yl c)) (rws (qlo c 0) 256) ∗ oA (yl (yl (yl c))) (rws (qlo c 0) 256)) := rfl
theorem pay_3 : (iprop(byP (yr c) ![2, 0, 0] inb_S3x256x1024_S1x256x1024_2_0_0 (qlo c 1) (YS m ρ 2 c) ∗ oA c (rws (qlo c 1) 256) ∗ oA (yl c) (rws (qlo c 1) 256) ∗ oA (yl (yl c)) (rws (qlo c 1) 256)) : sProp 𝕄) ⊢ recvPay m ρ (tgt 3 c) (3 : Fin 14).val := by
  rw [show tgt 3 c = yr c from rfl, recv_3, yl_yr, qlo_yr0]
theorem recv_4 : (recvPay m ρ c (4 : Fin 14).val : sProp 𝕄) = iprop(bzP c ![0, 0, 0] inb_S3x64x1024_S1x64x1024_0_0_0 (slo c 2) (ZS m ρ 0 (zl c)) ∗ oA (zl c) (rws (slo c 2) 64)) := rfl
theorem pay_4 : (iprop(bzP (zr c) ![0, 0, 0] inb_S3x64x1024_S1x64x1024_0_0_0 (slo c 3) (ZS m ρ 0 c) ∗ oA c (rws (slo c 3) 64) ∗ emp) : sProp 𝕄) ⊢ recvPay m ρ (tgt 4 c) (4 : Fin 14).val := by
  rw [show tgt 4 c = zr c from rfl, recv_4, zl_zr, slo_zr2]
  iintro ⟨H1, H2, -⟩
  isplitl [H1] <;> iassumption
theorem recv_5 : (recvPay m ρ c (5 : Fin 14).val : sProp 𝕄) = iprop(bzP c ![1, 0, 0] inb_S3x64x1024_S1x64x1024_1_0_0 (slo c 1) (ZS m ρ 1 (zl c)) ∗ oA (zl c) (rws (slo c 1) 64) ∗ oA (zl (zl c)) (rws (slo c 1) 64)) := rfl
theorem pay_5 : (iprop(bzP (zr c) ![1, 0, 0] inb_S3x64x1024_S1x64x1024_1_0_0 (slo c 2) (ZS m ρ 1 c) ∗ oA c (rws (slo c 2) 64) ∗ oA (zl c) (rws (slo c 2) 64)) : sProp 𝕄) ⊢ recvPay m ρ (tgt 5 c) (5 : Fin 14).val := by
  rw [show tgt 5 c = zr c from rfl, recv_5, zl_zr, slo_zr1]
theorem recv_6 : (recvPay m ρ c (6 : Fin 14).val : sProp 𝕄) = iprop(bzP c ![2, 0, 0] inb_S3x64x1024_S1x64x1024_2_0_0 (slo c 0) (ZS m ρ 2 (zl c)) ∗ oA (zl c) (rws (slo c 0) 64) ∗ oA (zl (zl c)) (rws (slo c 0) 64) ∗ oA (zl (zl (zl c))) (rws (slo c 0) 64)) := rfl
theorem pay_6 : (iprop(bzP (zr c) ![2, 0, 0] inb_S3x64x1024_S1x64x1024_2_0_0 (slo c 1) (ZS m ρ 2 c) ∗ oA c (rws (slo c 1) 64) ∗ oA (zl c) (rws (slo c 1) 64) ∗ oA (zl (zl c)) (rws (slo c 1) 64)) : sProp 𝕄) ⊢ recvPay m ρ (tgt 6 c) (6 : Fin 14).val := by
  rw [show tgt 6 c = zr c from rfl, recv_6, zl_zr, slo_zr0]
theorem recv_7 : (recvPay m ρ c (7 : Fin 14).val : sProp 𝕄) = iprop(oP c (rws (slo c 3) 64) (R m ρ) ∗ oA (zl (zl c)) (rws (slo c 3) 64) ∗ oA (zl (zl (zl c))) (rws (slo c 3) 64)) := rfl
theorem pay_7 : (iprop(oP (zr c) (rws (slo c 0) 64) (R m ρ) ∗ oA (zl c) (rws (slo c 0) 64) ∗ oA (zl (zl c)) (rws (slo c 0) 64)) : sProp 𝕄) ⊢ recvPay m ρ (tgt 7 c) (7 : Fin 14).val := by
  rw [show tgt 7 c = zr c from rfl, recv_7, zl_zr, slo_zr3]
theorem send_7 : (oP c (rws (slo c 0) 64) (R m ρ) : sProp 𝕄) ⊢ sendPay m ρ c (7 : Fin 14).val := Entails.of_eq rfl
theorem sent_7 : (sendPay m ρ c (7 : Fin 14).val : sProp 𝕄) ⊢ oP c (rws (slo c 0) 64) (R m ρ) := Entails.of_eq rfl
theorem recv_8 : (recvPay m ρ c (8 : Fin 14).val : sProp 𝕄) = iprop(oP c (rws (slo c 2) 64) (R m ρ) ∗ oA (zl (zl (zl c))) (rws (slo c 2) 64)) := rfl
theorem pay_8 : (iprop(oP (zr c) (rws (slo c 3) 64) (R m ρ) ∗ oA (zl (zl c)) (rws (slo c 3) 64)) : sProp 𝕄) ⊢ recvPay m ρ (tgt 8 c) (8 : Fin 14).val := by
  rw [show tgt 8 c = zr c from rfl, recv_8, zl_zr, slo_zr2]
theorem send_8 : (oP c (rws (slo c 3) 64) (R m ρ) : sProp 𝕄) ⊢ sendPay m ρ c (8 : Fin 14).val := Entails.of_eq rfl
theorem sent_8 : (sendPay m ρ c (8 : Fin 14).val : sProp 𝕄) ⊢ oP c (rws (slo c 3) 64) (R m ρ) := Entails.of_eq rfl
theorem recv_9 : (recvPay m ρ c (9 : Fin 14).val : sProp 𝕄) = (oP c (rws (slo c 1) 64) (R m ρ)) := rfl
theorem pay_9 : (iprop(oP (zr c) (rws (slo c 2) 64) (R m ρ) ∗ emp) : sProp 𝕄) ⊢ recvPay m ρ (tgt 9 c) (9 : Fin 14).val := by
  rw [show tgt 9 c = zr c from rfl, recv_9, slo_zr1]
  iintro ⟨H, -⟩; iexact H
theorem send_9 : (oP c (rws (slo c 2) 64) (R m ρ) : sProp 𝕄) ⊢ sendPay m ρ c (9 : Fin 14).val := Entails.of_eq rfl
theorem sent_9 : (sendPay m ρ c (9 : Fin 14).val : sProp 𝕄) ⊢ oP c (rws (slo c 2) 64) (R m ρ) := Entails.of_eq rfl
theorem recv_10 : (recvPay m ρ c (10 : Fin 14).val : sProp 𝕄) = iprop(oP c (rws (qlo c 3) 256) (R m ρ) ∗ oA (yl (yl c)) (rws (qlo c 3) 256) ∗ oA (yl (yl (yl c))) (rws (qlo c 3) 256)) := rfl
theorem pay_10 : (iprop(oP (yr c) (rws (qlo c 0) 256) (R m ρ) ∗ oA (yl c) (rws (qlo c 0) 256) ∗ oA (yl (yl c)) (rws (qlo c 0) 256)) : sProp 𝕄) ⊢ recvPay m ρ (tgt 10 c) (10 : Fin 14).val := by
  rw [show tgt 10 c = yr c from rfl, recv_10, yl_yr, qlo_yr3]
theorem send_10 : (oP c (rws (qlo c 0) 256) (R m ρ) : sProp 𝕄) ⊢ sendPay m ρ c (10 : Fin 14).val := Entails.of_eq rfl
theorem sent_10 : (sendPay m ρ c (10 : Fin 14).val : sProp 𝕄) ⊢ oP c (rws (qlo c 0) 256) (R m ρ) := Entails.of_eq rfl
theorem recv_11 : (recvPay m ρ c (11 : Fin 14).val : sProp 𝕄) = iprop(oP c (rws (qlo c 2) 256) (R m ρ) ∗ oA (yl (yl (yl c))) (rws (qlo c 2) 256)) := rfl
theorem pay_11 : (iprop(oP (yr c) (rws (qlo c 3) 256) (R m ρ) ∗ oA (yl (yl c)) (rws (qlo c 3) 256)) : sProp 𝕄) ⊢ recvPay m ρ (tgt 11 c) (11 : Fin 14).val := by
  rw [show tgt 11 c = yr c from rfl, recv_11, yl_yr, qlo_yr2]
theorem send_11 : (oP c (rws (qlo c 3) 256) (R m ρ) : sProp 𝕄) ⊢ sendPay m ρ c (11 : Fin 14).val := Entails.of_eq rfl
theorem sent_11 : (sendPay m ρ c (11 : Fin 14).val : sProp 𝕄) ⊢ oP c (rws (qlo c 3) 256) (R m ρ) := Entails.of_eq rfl
theorem recv_12 : (recvPay m ρ c (12 : Fin 14).val : sProp 𝕄) = (oP c (rws (qlo c 1) 256) (R m ρ)) := rfl
theorem pay_12 : (iprop(oP (yr c) (rws (qlo c 2) 256) (R m ρ) ∗ emp) : sProp 𝕄) ⊢ recvPay m ρ (tgt 12 c) (12 : Fin 14).val := by
  rw [show tgt 12 c = yr c from rfl, recv_12, qlo_yr1]
  iintro ⟨H, -⟩; iexact H
theorem send_12 : (oP c (rws (qlo c 2) 256) (R m ρ) : sProp 𝕄) ⊢ sendPay m ρ c (12 : Fin 14).val := Entails.of_eq rfl
theorem sent_12 : (sendPay m ρ c (12 : Fin 14).val : sProp 𝕄) ⊢ oP c (rws (qlo c 2) 256) (R m ρ) := Entails.of_eq rfl
theorem recv_13 : (recvPay m ρ c (13 : Fin 14).val : sProp 𝕄) = (oP c (rws (hlo' c) 1024) (R m ρ)) := rfl
theorem pay_13 : (iprop(oP (xp c) (rws (hlo c) 1024) (R m ρ) ∗ emp) : sProp 𝕄) ⊢ recvPay m ρ (tgt 13 c) (13 : Fin 14).val := by
  rw [show tgt 13 c = xp c from rfl, recv_13, hlo'_xp]
  iintro ⟨H, -⟩; iexact H
theorem send_13 : (oP c (rws (hlo c) 1024) (R m ρ) : sProp 𝕄) ⊢ sendPay m ρ c (13 : Fin 14).val := Entails.of_eq rfl
theorem sent_13 : (sendPay m ρ c (13 : Fin 14).val : sProp 𝕄) ⊢ oP c (rws (hlo c) 1024) (R m ρ) := Entails.of_eq rfl

end Pay

end Cert.TreeProof
-- ==== Proof.Body.lean ====
/-
# The body

The kernel on a symbolic device, stage by stage, from what the launch gives it to the full sum in its result buffer.
-/
module

public import proofs.«01_k».proof.Proof.Pays

@[expose] public section

noncomputable section

namespace Cert.TreeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem reached_send (K : Dev nD × Fin 16 → ℕ) (c : Dev nD) : marks m ρ K ⊢ (reached ER (sendCell c) 0 : sProp 𝕄) := by
  unfold marks; iintro ⟨#H, -⟩
  rw [← kcell_send c]; iapply (rec_reached m ρ K (c, 1)); iexact H
theorem bigSep_fin14 (Φ : Fin 14 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ

/-- On the rows a device ends the reduction of, its sum is the result. -/
theorem oP_R (c : Dev nD) : (oP c (rws (slo c 0) 64) (ZS m ρ 3 c) : sProp 𝕄) = oP c (rws (slo c 0) 64) (R m ρ) :=
  oP_congr c fun j hj => by unfold R; rw [owner_of_mem c hj]

/-- What the body starts from. -/
def stagesPre (K : Dev nD × Fin 16 → ℕ) (c : Dev nD) (W : Waits sig Unit) (g : Cont F) : sProp 𝕄 :=
  iprop(marks m ρ K ∗ owes (c : Thread nD τ) (O₀ c) W ∗ atPos ER (barCell c) 0 ∅ 0 ∗ cred (tallyAt (barCell c) () 3)
    ∗ dutyTok ER (barCell (xp c)) 0 0 ∗ dutyTok ER (barCell (yl c)) 0 1 ∗ dutyTok ER (barCell (zl c)) 0 2
    ∗ atPos ER (sendCell c) 0 ∅ 0 ∗ (bigSep Finset.univ fun i : Fin 14 => tk c i)
    ∗ (((c : Thread nD τ).loc cc0_stg0_0) ↦{fullShare} (xstg m ρ c)) ∗ oP c Finset.univ g ∗ bxA c ∗ byA c ∗ bzA c)

/-- What it ends with. -/
def stagesPost (c : Dev nD) : sProp 𝕄 :=
  iprop((∃ W : Waits sig Unit, owes (c : Thread nD τ) 0 W) ∗ atPos ER (barCell c) 1 ∅ 0 ∗ atPos ER (sendCell c) 14 ∅ 0
    ∗ (bigSep Finset.univ fun i : Fin 14 => dn c i)
    ∗ (((c : Thread nD τ).loc cc0_stg0_0) ↦{fullShare} (xstg m ρ c)) ∗ oP c Finset.univ (R m ρ) ∗ bxA c ∗ byA c ∗ bzA c)

/-- The stages, one by one. -/
theorem wp_stages (K : Dev nD × Fin 16 → ℕ) (c : Dev nD) (W : Waits sig Unit) (g : Cont F) (Q : PUnit → sProp 𝕄) :
    stagesPre m ρ K c W g ⊢ iprop((stagesPost m ρ c -∗ Q ⟨⟩) -∗ wpc c (stages c) Q) := by
  unfold stages
  simp only [wp_bind]
  unfold stagesPre
  rw [bigSep_fin14]
  iintro ⟨#HM, HO, HatB, HcB, Ht1, Ht2, Ht3, HatS, ⟨Htk0, Htk1, Htk2, Htk3, Htk4, Htk5, Htk6, Htk7, Htk8, Htk9, Htk10, Htk11, Htk12, Htk13⟩, Hx, Hout, Hbx, Hby, Hbz⟩ Hk
  -- the handshake
  iapply (wp_handshake m ρ K c (dev1_eq c) (dev2_eq c) (dev3_eq c) W) $$ [HO HatB HcB Ht1 Ht2 Ht3 Hbx Hby Hbz]
  · isplitr; · iexact HM
    isplitl [HO]; · iexact HO
    isplitl [HatB]; · iexact HatB
    isplitl [HcB]; · iexact HcB
    isplitl [Ht1]; · iexact Ht1
    isplitl [Ht2]; · iexact Ht2
    isplitl [Ht3]; · iexact Ht3
    isplitl [Hbx]; · iexact Hbx
    isplitl [Hby] <;> iassumption
  iintro ⟨⟨%W1, HO⟩, HatB, HbxP, HbyP, HbzP⟩
  ihave Hst : st c 0 $$ [HO HatS]
  · unfold st; iexists W1
    isplitl [HO]; · iexact HO
    isplitr; · iapply (reached_send m ρ K c); iexact HM
    iexact HatS
  ihave HyS := (by_slots (F := F) (yr c)).1 $$ HbyP
  icases HyS with ⟨HyP0, HyP1, HyP2⟩
  ihave HzS := (bz_slots (F := F) (zr c)).1 $$ HbzP
  icases HzS with ⟨HzP0, HzP1, HzP2⟩
  ihave HxP := (Entails.of_eq (bxSA_eq (F := F) (xp c)).symm) $$ HbxP
  -- the copy of `x`
  iapply (wp_fill m ρ c g) $$ [Hx Hout]
  · isplitl [Hx] <;> iassumption
  iintro ⟨Hx, Hout⟩
  ihave Hh := (oP_halves c (X m ρ c)).1 $$ Hout
  icases Hh with ⟨Hh', Hh⟩
  -- exchange 0
  iapply (wp_give_half m ρ K c 0 rfl (dev4_eq c) (hlo' c) (off1_eq c) rfl rfl (X m ρ c) iprop(emp) (pay_0 m ρ c)) $$ [Htk0 Hst Hh' HxP]
  · isplitr; · iexact HM
    isplitl [Htk0]; · iexact Htk0
    isplitl [Hst]; · iexact Hst
    isplitl [Hh']; · iexact Hh'
    isplitl [HxP]; · iexact HxP
    iempintro
  iintro ⟨Hst, Hdn0, Hr⟩
  ihave Hr := (Entails.of_eq (recv_0 m ρ c)) $$ Hr
  icases Hr with ⟨Hb, Eh⟩
  iapply (wp_addHalf c (hlo c) (off2_eq c) (X m ρ c) (X m ρ (xp c)) (V1 m ρ c) rfl) $$ [Hh Hb]
  · isplitl [Hh] <;> iassumption
  iintro ⟨Hh, Hbx⟩
  ihave Hq := (oP_quarters c (V1 m ρ c)).1 $$ Hh
  icases Hq with ⟨Hq3, Hq2, Hq1, Hq0⟩
  -- exchange 1
  iapply (wp_give_quar m ρ K c 1 rfl (dev5_eq c) (qlo c 3) (off3_0 c) rfl rfl (YS m ρ 0 c) iprop(emp) (pay_1 m ρ c)) $$ [Htk1 Hst Hq3 HyP0]
  · isplitr; · iexact HM
    isplitl [Htk1]; · iexact Htk1
    isplitl [Hst]; · iexact Hst
    isplitl [Hq3]; · iexact Hq3
    isplitl [HyP0]; · iexact HyP0
    iempintro
  iintro ⟨Hst, Hdn1, Hr⟩
  ihave Hr := (Entails.of_eq (recv_1 m ρ c)) $$ Hr
  icases Hr with ⟨Hb, Eq0⟩
  iapply (wp_addQuar c (qlo c 2) (off4_0 c) ![0, 0, 0] inb_S3x256x1024_S1x256x1024_0_0_0 (V1 m ρ c) (YS m ρ 0 (yl c)) (YS m ρ 1 c) rfl) $$ [Hq2 Hb]
  · isplitl [Hq2] <;> iassumption
  iintro ⟨Hq2, Hby0⟩
  -- exchange 2
  iapply (wp_give_quar m ρ K c 2 rfl (dev6_eq c) (qlo c 2) (off3_1 c) rfl rfl (YS m ρ 1 c) iprop(oA (yl c) (rws (qlo c 2) 256)) (pay_2 m ρ c)) $$ [Htk2 Hst Hq2 HyP1 Eq0]
  · isplitr; · iexact HM
    isplitl [Htk2]; · iexact Htk2
    isplitl [Hst]; · iexact Hst
    isplitl [Hq2]; · iexact Hq2
    isplitl [HyP1]; · iexact HyP1
    iexact Eq0
  iintro ⟨Hst, Hdn2, Hr⟩
  ihave Hr := (Entails.of_eq (recv_2 m ρ c)) $$ Hr
  icases Hr with ⟨Hb, Eq0, Eq1⟩
  iapply (wp_addQuar c (qlo c 1) (off4_1 c) ![1, 0, 0] inb_S3x256x1024_S1x256x1024_1_0_0 (V1 m ρ c) (YS m ρ 1 (yl c)) (YS m ρ 2 c) rfl) $$ [Hq1 Hb]
  · isplitl [Hq1] <;> iassumption
  iintro ⟨Hq1, Hby1⟩
  -- exchange 3
  iapply (wp_give_quar m ρ K c 3 rfl (dev7_eq c) (qlo c 1) (off3_2 c) rfl rfl (YS m ρ 2 c) iprop(oA (yl c) (rws (qlo c 1) 256) ∗ oA (yl (yl c)) (rws (qlo c 1) 256)) (pay_3 m ρ c)) $$ [Htk3 Hst Hq1 HyP2 Eq0 Eq1]
  · isplitr; · iexact HM
    isplitl [Htk3]; · iexact Htk3
    isplitl [Hst]; · iexact Hst
    isplitl [Hq1]; · iexact Hq1
    isplitl [HyP2]; · iexact HyP2
    isplitl [Eq0] <;> iassumption
  iintro ⟨Hst, Hdn3, Hr⟩
  ihave Hr := (Entails.of_eq (recv_3 m ρ c)) $$ Hr
  icases Hr with ⟨Hb, Eq0, Eq1, Eq2⟩
  iapply (wp_addQuar c (qlo c 0) (off4_2 c) ![2, 0, 0] inb_S3x256x1024_S1x256x1024_2_0_0 (V1 m ρ c) (YS m ρ 2 (yl c)) (YS m ρ 3 c) rfl) $$ [Hq0 Hb]
  · isplitl [Hq0] <;> iassumption
  iintro ⟨Hq0, Hby2⟩
  ihave Hs := (oP_sixteenths c (YS m ρ 3 c)).1 $$ Hq0
  icases Hs with ⟨Hs3, Hs2, Hs1, Hs0⟩
  -- exchange 4
  iapply (wp_give_sub m ρ K c 4 rfl (dev8_eq c) (slo c 3) (off5_0 c) rfl rfl (ZS m ρ 0 c) iprop(emp) (pay_4 m ρ c)) $$ [Htk4 Hst Hs3 HzP0]
  · isplitr; · iexact HM
    isplitl [Htk4]; · iexact Htk4
    isplitl [Hst]; · iexact Hst
    isplitl [Hs3]; · iexact Hs3
    isplitl [HzP0]; · iexact HzP0
    iempintro
  iintro ⟨Hst, Hdn4, Hr⟩
  ihave Hr := (Entails.of_eq (recv_4 m ρ c)) $$ Hr
  icases Hr with ⟨Hb, Es0⟩
  iapply (wp_addSub c (slo c 2) (off6_0 c) ![0, 0, 0] inb_S3x64x1024_S1x64x1024_0_0_0 (YS m ρ 3 c) (ZS m ρ 0 (zl c)) (ZS m ρ 1 c) rfl) $$ [Hs2 Hb]
  · isplitl [Hs2] <;> iassumption
  iintro ⟨Hs2, Hbz0⟩
  -- exchange 5
  iapply (wp_give_sub m ρ K c 5 rfl (dev9_eq c) (slo c 2) (off5_1 c) rfl rfl (ZS m ρ 1 c) iprop(oA (zl c) (rws (slo c 2) 64)) (pay_5 m ρ c)) $$ [Htk5 Hst Hs2 HzP1 Es0]
  · isplitr; · iexact HM
    isplitl [Htk5]; · iexact Htk5
    isplitl [Hst]; · iexact Hst
    isplitl [Hs2]; · iexact Hs2
    isplitl [HzP1]; · iexact HzP1
    iexact Es0
  iintro ⟨Hst, Hdn5, Hr⟩
  ihave Hr := (Entails.of_eq (recv_5 m ρ c)) $$ Hr
  icases Hr with ⟨Hb, Es0, Es1⟩
  iapply (wp_addSub c (slo c 1) (off6_1 c) ![1, 0, 0] inb_S3x64x1024_S1x64x1024_1_0_0 (YS m ρ 3 c) (ZS m ρ 1 (zl c)) (ZS m ρ 2 c) rfl) $$ [Hs1 Hb]
  · isplitl [Hs1] <;> iassumption
  iintro ⟨Hs1, Hbz1⟩
  -- exchange 6
  iapply (wp_give_sub m ρ K c 6 rfl (dev10_eq c) (slo c 1) (off5_2 c) rfl rfl (ZS m ρ 2 c) iprop(oA (zl c) (rws (slo c 1) 64) ∗ oA (zl (zl c)) (rws (slo c 1) 64)) (pay_6 m ρ c)) $$ [Htk6 Hst Hs1 HzP2 Es0 Es1]
  · isplitr; · iexact HM
    isplitl [Htk6]; · iexact Htk6
    isplitl [Hst]; · iexact Hst
    isplitl [Hs1]; · iexact Hs1
    isplitl [HzP2]; · iexact HzP2
    isplitl [Es0] <;> iassumption
  iintro ⟨Hst, Hdn6, Hr⟩
  ihave Hr := (Entails.of_eq (recv_6 m ρ c)) $$ Hr
  icases Hr with ⟨Hb, Es0, Es1, Es2⟩
  iapply (wp_addSub c (slo c 0) (off6_2 c) ![2, 0, 0] inb_S3x64x1024_S1x64x1024_2_0_0 (YS m ρ 3 c) (ZS m ρ 2 (zl c)) (ZS m ρ 3 c) rfl) $$ [Hs0 Hb]
  · isplitl [Hs0] <;> iassumption
  iintro ⟨Hs0, Hbz2⟩
  ihave Hs0 := (Entails.of_eq (oP_R m ρ c)) $$ Hs0
  ihave E3 := (Entails.of_eq (congrArg (fun d => oA (F := F) d _) (zl3 c))) $$ Es2
  -- exchange 7
  iapply (wp_keep_sub m ρ K c 7 rfl (dev11_eq c) (slo c 0) (off7_0 c) rfl (R m ρ) iprop(oA (zl c) (rws (slo c 0) 64) ∗ oA (zl (zl c)) (rws (slo c 0) 64)) (send_7 m ρ c) (pay_7 m ρ c)) $$ [Htk7 Hst Hs0 E3 Es0 Es1]
  · isplitr; · iexact HM
    isplitl [Htk7]; · iexact Htk7
    isplitl [Hst]; · iexact Hst
    isplitl [Hs0]; · iexact Hs0
    isplitl [E3]; · iexact E3
    isplitl [Es0] <;> iassumption
  iintro ⟨Hst, Hdn7, Hs, Hr⟩
  ihave Hs0 := (sent_7 m ρ c) $$ Hs
  ihave Hr := (Entails.of_eq (recv_7 m ρ c)) $$ Hr
  icases Hr with ⟨Hs3, Es1, Es2⟩
  ihave E3 := (Entails.of_eq (congrArg (fun d => oA (F := F) d _) (zl3 c))) $$ Es2
  -- exchange 8
  iapply (wp_keep_sub m ρ K c 8 rfl (dev12_eq c) (slo c 3) (off7_1 c) rfl (R m ρ) iprop(oA (zl (zl c)) (rws (slo c 3) 64)) (send_8 m ρ c) (pay_8 m ρ c)) $$ [Htk8 Hst Hs3 E3 Es1]
  · isplitr; · iexact HM
    isplitl [Htk8]; · iexact Htk8
    isplitl [Hst]; · iexact Hst
    isplitl [Hs3]; · iexact Hs3
    isplitl [E3]; · iexact E3
    iexact Es1
  iintro ⟨Hst, Hdn8, Hs, Hr⟩
  ihave Hs3 := (sent_8 m ρ c) $$ Hs
  ihave Hr := (Entails.of_eq (recv_8 m ρ c)) $$ Hr
  icases Hr with ⟨Hs2, Es2⟩
  ihave E3 := (Entails.of_eq (congrArg (fun d => oA (F := F) d _) (zl3 c))) $$ Es2
  -- exchange 9
  iapply (wp_keep_sub m ρ K c 9 rfl (dev13_eq c) (slo c 2) (off7_2 c) rfl (R m ρ) iprop(emp) (send_9 m ρ c) (pay_9 m ρ c)) $$ [Htk9 Hst Hs2 E3]
  · isplitr; · iexact HM
    isplitl [Htk9]; · iexact Htk9
    isplitl [Hst]; · iexact Hst
    isplitl [Hs2]; · iexact Hs2
    isplitl [E3]; · iexact E3
    iempintro
  iintro ⟨Hst, Hdn9, Hs, Hr⟩
  ihave Hs2 := (sent_9 m ρ c) $$ Hs
  ihave Hr := (Entails.of_eq (recv_9 m ρ c)) $$ Hr
  irename Hr => Hs1
  ihave Hq0 := (oP_sixteenths c (R m ρ)).2 $$ [Hs0 Hs1 Hs2 Hs3]
  · isplitl [Hs3]; · iexact Hs3
    isplitl [Hs2]; · iexact Hs2
    isplitl [Hs1] <;> iassumption
  ihave E3 := (Entails.of_eq (congrArg (fun d => oA (F := F) d _) (yl3 c))) $$ Eq2
  -- exchange 10
  iapply (wp_keep_quar m ρ K c 10 rfl (dev14_eq c) (qlo c 0) (off8_0 c) rfl (R m ρ) iprop(oA (yl c) (rws (qlo c 0) 256) ∗ oA (yl (yl c)) (rws (qlo c 0) 256)) (send_10 m ρ c) (pay_10 m ρ c)) $$ [Htk10 Hst Hq0 E3 Eq0 Eq1]
  · isplitr; · iexact HM
    isplitl [Htk10]; · iexact Htk10
    isplitl [Hst]; · iexact Hst
    isplitl [Hq0]; · iexact Hq0
    isplitl [E3]; · iexact E3
    isplitl [Eq0] <;> iassumption
  iintro ⟨Hst, Hdn10, Hs, Hr⟩
  ihave Hq0 := (sent_10 m ρ c) $$ Hs
  ihave Hr := (Entails.of_eq (recv_10 m ρ c)) $$ Hr
  icases Hr with ⟨Hq3, Eq1, Eq2⟩
  ihave E3 := (Entails.of_eq (congrArg (fun d => oA (F := F) d _) (yl3 c))) $$ Eq2
  -- exchange 11
  iapply (wp_keep_quar m ρ K c 11 rfl (dev15_eq c) (qlo c 3) (off8_1 c) rfl (R m ρ) iprop(oA (yl (yl c)) (rws (qlo c 3) 256)) (send_11 m ρ c) (pay_11 m ρ c)) $$ [Htk11 Hst Hq3 E3 Eq1]
  · isplitr; · iexact HM
    isplitl [Htk11]; · iexact Htk11
    isplitl [Hst]; · iexact Hst
    isplitl [Hq3]; · iexact Hq3
    isplitl [E3]; · iexact E3
    iexact Eq1
  iintro ⟨Hst, Hdn11, Hs, Hr⟩
  ihave Hq3 := (sent_11 m ρ c) $$ Hs
  ihave Hr := (Entails.of_eq (recv_11 m ρ c)) $$ Hr
  icases Hr with ⟨Hq2, Eq2⟩
  ihave E3 := (Entails.of_eq (congrArg (fun d => oA (F := F) d _) (yl3 c))) $$ Eq2
  -- exchange 12
  iapply (wp_keep_quar m ρ K c 12 rfl (dev16_eq c) (qlo c 2) (off8_2 c) rfl (R m ρ) iprop(emp) (send_12 m ρ c) (pay_12 m ρ c)) $$ [Htk12 Hst Hq2 E3]
  · isplitr; · iexact HM
    isplitl [Htk12]; · iexact Htk12
    isplitl [Hst]; · iexact Hst
    isplitl [Hq2]; · iexact Hq2
    isplitl [E3]; · iexact E3
    iempintro
  iintro ⟨Hst, Hdn12, Hs, Hr⟩
  ihave Hq2 := (sent_12 m ρ c) $$ Hs
  ihave Hr := (Entails.of_eq (recv_12 m ρ c)) $$ Hr
  irename Hr => Hq1
  ihave Hh := (oP_quarters c (R m ρ)).2 $$ [Hq0 Hq1 Hq2 Hq3]
  · isplitl [Hq3]; · iexact Hq3
    isplitl [Hq2]; · iexact Hq2
    isplitl [Hq1] <;> iassumption
  -- exchange 13
  iapply (wp_keep_half m ρ K c 13 rfl (dev17_eq c) (hlo c) (off9_eq c) rfl (R m ρ) iprop(emp) (send_13 m ρ c) (pay_13 m ρ c)) $$ [Htk13 Hst Hh Eh]
  · isplitr; · iexact HM
    isplitl [Htk13]; · iexact Htk13
    isplitl [Hst]; · iexact Hst
    isplitl [Hh]; · iexact Hh
    isplitl [Eh]; · iexact Eh
    iempintro
  iintro ⟨Hst, Hdn13, Hs, Hr⟩
  ihave Hh := (sent_13 m ρ c) $$ Hs
  ihave Hr := (Entails.of_eq (recv_13 m ρ c)) $$ Hr
  irename Hr => Hh'
  iapply Hk
  unfold stagesPost st dn
  icases Hst with ⟨%W2, HO, -, HatS⟩
  isplitl [HO]; · iexists W2; rw [← Orest_end c]; iexact HO
  isplitl [HatB]; · iexact HatB
  isplitl [HatS]; · iexact HatS
  rw [bigSep_fin14]
  isplitl [Hdn0 Hdn1 Hdn2 Hdn3 Hdn4 Hdn5 Hdn6 Hdn7 Hdn8 Hdn9 Hdn10 Hdn11 Hdn12 Hdn13]
  · isplitl [Hdn0]; · iexact Hdn0
    isplitl [Hdn1]; · iexact Hdn1
    isplitl [Hdn2]; · iexact Hdn2
    isplitl [Hdn3]; · iexact Hdn3
    isplitl [Hdn4]; · iexact Hdn4
    isplitl [Hdn5]; · iexact Hdn5
    isplitl [Hdn6]; · iexact Hdn6
    isplitl [Hdn7]; · iexact Hdn7
    isplitl [Hdn8]; · iexact Hdn8
    isplitl [Hdn9]; · iexact Hdn9
    isplitl [Hdn10]; · iexact Hdn10
    isplitl [Hdn11]; · iexact Hdn11
    isplitl [Hdn12]; · iexact Hdn12
    iexact Hdn13
  isplitl [Hx]; · iexact Hx
  isplitl [Hh Hh']
  · iapply (oP_halves c (R m ρ)).2
    isplitl [Hh'] <;> iassumption
  isplitl [Hbx]; · iapply (Entails.of_eq (bxSA_eq (F := F) c)); iexact Hbx
  isplitl [Hby0 Hby1 Hby2]
  · iapply (by_slots (F := F) c).2
    isplitl [Hby0]; · iexact Hby0
    isplitl [Hby1] <;> iassumption
  iapply (bz_slots (F := F) c).2
  isplitl [Hbz0]; · iexact Hbz0
  isplitl [Hbz1] <;> iassumption

end Cert.TreeProof
-- ==== Proof.Launch.lean ====
/-
# The launch

What the launch deals to each device, the ghost state of the protocol handed around the torus, the body as the
pipeline asks for it, and the run of the whole program, for any float values.
-/
module

public import proofs.«01_k».proof.Proof.Body
public import proofs.«01_k».proof.Proof.Gen.KernelIdeal.Points
public import Idealize.ShloMosaic.Lib.Pipeline.ValueKit.Geometry
public import Idealize.ShloMosaic.Lib.Pipeline.CollectiveSegs

@[expose] public section

noncomputable section

namespace Cert.TreeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts from and ends with -/

/-- The tokens of the duties device `c` pays. -/
def payToks (c : Dev nD) : sProp 𝕄 :=
  iprop(dutyTok ER (barCell (xp c)) 0 0 ∗ dutyTok ER (barCell (yl c)) 0 1 ∗ dutyTok ER (barCell (zl c)) 0 2
    ∗ (bigSep Finset.univ fun i : Fin 14 => dutyTok ER (sendCell c) i.val 0)
    ∗ (bigSep Finset.univ fun i : Fin 14 => dutyTok ER (recvCell (tgt i c) i) 0 0))

/-- What of the protocol's ghost state only device `c` holds: its positions and those tokens. -/
def linear (c : Dev nD) : sProp 𝕄 :=
  iprop((atPos ER (barCell c) 0 ∅ 0 ∗ atPos ER (sendCell c) 0 ∅ 0 ∗ (bigSep Finset.univ fun i : Fin 14 => atPos ER (recvCell c i) 0 ∅ 0))
    ∗ payToks c)

def ghost (c : Dev nD) : sProp 𝕄 := iprop(∃ K, records m ρ K ∗ linear (F := F) c)

/-- What device `c`'s body starts from. -/
def start (c : Dev nD) : sProp 𝕄 :=
  iprop(ghost m ρ c ∗ cred (tallyAt (barCell c) () 3) ∗ (bigSep Finset.univ fun i : Fin 14 => cred (tallyAt (recvCell c i) () (Nn i)))
    ∗ levAts L lv)

def bufs (c : Dev nD) : sProp 𝕄 := iprop(bxA (F := F) c ∗ byA (F := F) c ∗ bzA (F := F) c)
def Φ₀ (c : Dev nD) : sProp 𝕄 := iprop(start m ρ c ∗ bufs (F := F) c)
/-- After the body: the landing buffers and every semaphore at zero again. -/
def Φ₁ (c : Dev nD) : sProp 𝕄 := iprop(bufs (F := F) c ∗ bigSep Finset.univ fun k : Fin 16 => semVal (kcell (c, k)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => R m ρ
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

theorem whole_owned (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem cells_fin16 (Φ : Fin 16 → sProp 𝕄) : bigSep Finset.univ Φ = iprop(Φ 0 ∗ Φ 1 ∗ bigSep Finset.univ fun i : Fin 14 => Φ (kx i)) := by
  rw [bigSep_fin14]
  exact bigSep_univ_eq_bigSepL [0, 1, 2, 3, 4, 5, 6, 7, 8, 9, 10, 11, 12, 13, 14, 15] (by decide) (by decide) Φ

/-! ## The body -/

/-- What an exchange uses up, all fourteen. -/
theorem tk_intro (c : Dev nD) :
    iprop((bigSep Finset.univ fun i : Fin 14 => dutyTok ER (sendCell c) i.val 0)
      ∗ (bigSep Finset.univ fun i : Fin 14 => dutyTok ER (recvCell (tgt i c) i) 0 0)
      ∗ (bigSep Finset.univ fun i : Fin 14 => atPos ER (recvCell c i) 0 ∅ 0)
      ∗ (bigSep Finset.univ fun i : Fin 14 => cred (tallyAt (recvCell c i) () (Nn i))))
      ⊢ (bigSep Finset.univ fun i : Fin 14 => tk (F := F) c i) := by
  unfold tk; rw [bigSep_sep', bigSep_sep', bigSep_sep']

theorem close_bar (K : Dev nD × Fin 16 → ℕ) (c : Dev nD) :
    iprop(records m ρ K ∗ atPos ER (barCell c) 1 ∅ 0) ⊢ |={Set.univ}=> semVal (barCell c) 0 := by
  iintro ⟨#HR, H⟩
  iapply (Rounds.cell_close ER (treeRd m ρ) (Set.mem_univ (K (c, 0))) (fun h => h) (R := 1) (duties_bar_later m ρ c))
  isplitr; · iapply (inv_bar m ρ K c); iexact HR
  iexact H
theorem close_send (K : Dev nD × Fin 16 → ℕ) (c : Dev nD) :
    iprop(records m ρ K ∗ atPos ER (sendCell c) 14 ∅ 0) ⊢ |={Set.univ}=> semVal (sendCell c) 0 := by
  iintro ⟨#HR, H⟩
  iapply (Rounds.cell_close ER (treeRd m ρ) (Set.mem_univ (K (c, 1))) (fun h => h) (R := 14) (duties_send_later m ρ c))
  isplitr; · iapply (inv_send m ρ K c); iexact HR
  iexact H
theorem close_recv (K : Dev nD × Fin 16 → ℕ) (c : Dev nD) (i : Fin 14) :
    iprop(records m ρ K ∗ dn (F := F) c i) ⊢ |={Set.univ}=> semVal (recvCell c i) 0 := by
  unfold dn
  iintro ⟨#HR, H⟩
  iapply (Rounds.cell_close ER (treeRd m ρ) (Set.mem_univ (K (c, kx i))) (fun h => h) (R := 1) (duties_recv_later m ρ c i))
  isplitr; · iapply (inv_recv m ρ K c i); iexact HR
  iexact H

/-- A persistent fact is given to every member of a separating conjunction. -/
theorem bigSep_share {I : Type} [DecidableEq I] {S : Finset I} {P : sProp 𝕄} [BI.Persistent P] {Φ Ψ : I → sProp 𝕄}
    (h : ∀ i ∈ S, iprop(P ∗ Φ i) ⊢ Ψ i) : iprop(P ∗ bigSep S Φ) ⊢ bigSep S Ψ :=
  (sep_mono_left (BI.bigSep_of_persistent S P)).trans (by rw [← bigSep_sep']; exact bigSep_mono h)

theorem close_all (K : Dev nD × Fin 16 → ℕ) (c : Dev nD) :
    iprop(records m ρ K ∗ atPos ER (barCell c) 1 ∅ 0 ∗ atPos ER (sendCell c) 14 ∅ 0 ∗ (bigSep Finset.univ fun i : Fin 14 => dn (F := F) c i))
      ⊢ |={Set.univ}=> (bigSep Finset.univ fun k : Fin 16 => semVal (kcell (c, k)) 0 : sProp 𝕄) := by
  rw [cells_fin16, kcell_bar, kcell_send, show (fun i : Fin 14 => (semVal (kcell (c, kx i)) 0 : sProp 𝕄)) = fun i => semVal (recvCell c i) 0 from
    funext fun i => by rw [kcell_recv]]
  iintro ⟨#HR, HB, HS, HV⟩
  imod (close_bar m ρ K c) $$ [HB] with HB
  · isplitr; · iexact HR
    iexact HB
  imod (close_send m ρ K c) $$ [HS] with HS
  · isplitr; · iexact HR
    iexact HS
  imod ((bigSep_share (P := records m ρ K) (fun i _ => close_recv m ρ K c i)).trans (bigSep_fupd _ _)) $$ [HV] with HV
  · isplitr; · iexact HR
    iexact HV
  imodintro
  isplitl [HB]; · iexact HB
  isplitl [HS] <;> iassumption

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(Φ₁ (F := F) c ∗ (dats m ρ 0 c).owesAt () t0_0.succ ∗ stg c cc0_stg0_0 (xstg m ρ c) ∗ stg c cc0_stg1_0 (R m ρ))

theorem before_x (c : Dev nD) (d) : (dats m ρ 0 c).before (0 : Fin 2) t0_0 d = xstg m ρ c := by
  unfold Dat.before; rw [if_pos (fetch0_0 t0_0)]; rfl

theorem wp_close (K : Dev nD × Fin 16 → ℕ) (c : Dev nD) :
    iprop(records m ρ K ∗ stagesPost m ρ c) ⊢ |={Set.univ}=> bodyPost m ρ c := by
  unfold stagesPost bodyPost Φ₁ bufs Dat.owesAt Pipeline.owesWithin oP
  iintro ⟨#HR, ⟨%W, HO⟩, HB, HS, HV, Hx, Hout, Hbx, Hby, Hbz⟩
  imod (close_all m ρ K c) $$ [HB HS HV] with Hz
  · isplitr; · iexact HR
    isplitl [HB]; · iexact HB
    isplitl [HS] <;> iassumption
  imodintro
  rw [show (dats m ρ 0 c).owed t0_0.succ = 0 from rfl]
  isplitl [Hbx Hby Hbz Hz]
  · isplitr [Hz]
    · isplitl [Hbx]; · iexact Hbx
      isplitl [Hby] <;> iassumption
    iexact Hz
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Hout

theorem wp_body (c : Dev nD) :
    bodyPre m ρ c ⊢ wpc c (Prog.lift .deviceId >>= stages) (fun _ => bodyPost m ρ c) := by
  refine .trans ?_ (wp_fupd _ _ _ _ _)
  simp only [Prog.lift, Prog.bind_op, Prog.bind_ret, wp_deviceId]
  unfold bodyPre Φ₀ start ghost linear payToks bufs
  iintro ⟨⟨⟨⟨%K, #HR, ⟨HatB, HatS, HatV⟩, Ht1, Ht2, Ht3, HtS, HtV⟩, HcB, HcV, #Hlev⟩, Hbx, Hby, Hbz⟩, Ho, ⟨%d0, %g0, %hg0, Hx⟩, ⟨%d1, %g1, %hg1, Hout⟩⟩
  rw [before_x] at hg0
  subst hg0
  unfold Dat.owesAt Pipeline.owesWithin
  icases Ho with ⟨%W, %hW, HO⟩
  rw [show (dats m ρ 0 c).owed t0_0.castSucc = O₀ c from rfl]
  ihave Htk := (tk_intro (F := F) c) $$ [HtS HtV HatV HcV]
  · isplitl [HtS]; · iexact HtS
    isplitl [HtV]; · iexact HtV
    isplitl [HatV] <;> iassumption
  iapply (wp_stages m ρ K c W g1) $$ [HO HatB HcB Ht1 Ht2 Ht3 HatS Htk Hx Hout Hbx Hby Hbz]
  · unfold stagesPre marks oP
    isplitr
    · isplitr; · iexact HR
      iexact Hlev
    isplitl [HO]; · iexact HO
    isplitl [HatB]; · iexact HatB
    isplitl [HcB]; · iexact HcB
    isplitl [Ht1]; · iexact Ht1
    isplitl [Ht2]; · iexact Ht2
    isplitl [Ht3]; · iexact Ht3
    isplitl [HatS]; · iexact HatS
    isplitl [Htk]; · iexact Htk
    isplitl [Hx]; · iexact Hx
    isplitl [Hout]; · iexact Hout
    isplitl [Hbx]; · iexact Hbx
    isplitl [Hby] <;> iassumption
  iintro H
  iapply (wp_close m ρ K c)
  isplitr; · iexact HR
  iexact H

/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [whole_owned]
  show bodyPre m ρ c ⊢ wpc c
    (cc0_body (F := F) (Memref.whole cc0_stg0_0) (Memref.isWhole_whole _) (Memref.whole cc0_stg1_0) (Memref.isWhole_whole _)
        (Memref.whole cc0_scratch0) (Memref.isWhole_whole _) (Memref.whole cc0_scratch1) (Memref.isWhole_whole _)
        (Memref.whole cc0_scratch2) (Memref.isWhole_whole _) cc0_scratch3 cc0_scratch4) (fun _ => bodyPost m ρ c)
  rw [body_eq]
  exact wp_body m ρ c

/-! ## The launch -/

/-- The kernel's own fifteen semaphores. -/
def osem (k : Fin 15) : SemLoc sig := csem k.succ

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide
theorem kcell_injective : Function.Injective (kcell : Dev nD × Fin 16 → GSem nD τ sig) := by
  rintro ⟨c, k⟩ ⟨c', k'⟩ h
  have h1 : c = c' := congrArg (fun g : GSem nD τ sig => g.1.1) h
  have h2 : k = k' := csem_injective (congrArg Prod.snd h)
  rw [h1, h2]
def treeCells : Finset (GSem nD τ sig) := Finset.univ.map ⟨kcell, kcell_injective⟩

/-- A device's own duties: of its barrier, of its send semaphore round by round, of its receive semaphores. -/
abbrev Duty : Type := Fin 3 ⊕ (Fin 14 ⊕ Fin 14)
def dutyOf (c : Dev nD) : Duty → GSem nD τ sig × ℕ × Fin 3
  | .inl d => (barCell c, 0, d)
  | .inr (.inl i) => (sendCell c, i.val, 0)
  | .inr (.inr i) => (recvCell c i, 0, 0)
def tokOf (p : Dev nD × Duty) : GSem nD τ sig × ℕ × Fin 3 := dutyOf p.1 p.2

/-- A duty's number: which semaphore, which round, which name. -/
def dutyKey : Duty → ℕ × ℕ × ℕ
  | .inl d => (0, 0, d.val)
  | .inr (.inl i) => (3, i.val, 0)
  | .inr (.inr i) => (4 + i.val, 0, 0)
def semKey : SemLoc sig → ℕ
  | .reg _ => 0
  | .dma q => 1 + q.val
theorem dutyKey_eq (c : Dev nD) (j : Duty) : dutyKey j = (semKey (dutyOf c j).1.2, (dutyOf c j).2.1, (dutyOf c j).2.2.val) := by
  rcases j with d | i | i
  · rfl
  · show (3, i.val, 0) = (1 + (sendS.sem : DmaSem sig).val, i.val, 0); rw [send_val]
  · show (4 + i.val, 0, 0) = (1 + (rq i).val, 0, 0); rw [rq_val, ← Nat.add_assoc]
theorem dutyKey_injective : Function.Injective dutyKey := by decide
theorem dutyOf_dev (c : Dev nD) (j : Duty) : (dutyOf c j).1.1.1 = c := by rcases j with d | i | i <;> rfl
theorem tokOf_injective : Function.Injective tokOf := by
  rintro ⟨c, j⟩ ⟨c', j'⟩ h
  have h1 : c = c' := by rw [← dutyOf_dev c j, ← dutyOf_dev c' j']; exact congrArg (fun x => x.1.1.1) h
  have h2 : j = j' := dutyKey_injective (by
    rw [dutyKey_eq c j, dutyKey_eq c' j']; exact congrArg (fun x => (semKey x.1.2, x.2.1, x.2.2.val)) h)
  rw [h1, h2]
def treeToks : Finset (GSem nD τ sig × ℕ × Fin 3) := Finset.univ.map ⟨tokOf, tokOf_injective⟩

def u₀ : UU :=
  (initOf (Pipeline.cells cfgs cellOf_inj) (Pipeline.launchToks cfgs cellOf_inj), initOf treeCells treeToks)

/-- The tokens of device `c`'s own duties. -/
def toks (c : Dev nD) : sProp 𝕄 :=
  iprop((bigSep Finset.univ fun d : Fin 3 => dutyTok ER (barCell c) 0 d)
    ∗ (bigSep Finset.univ fun i : Fin 14 => dutyTok ER (sendCell c) i.val 0)
    ∗ (bigSep Finset.univ fun i : Fin 14 => dutyTok ER (recvCell c i) 0 0))

/-- What the launch element deals device `c`. -/
def G (c : Dev nD) : sProp 𝕄 :=
  iprop((bigSep Finset.univ fun k : Fin 16 => roundState ER (treeRd m ρ) (kcell (c, k)) 0)
    ∗ (bigSep Finset.univ fun k : Fin 16 => iprop(atPos ER (kcell (c, k)) 0 ∅ 0 ∗ reached ER (kcell (c, k)) 0)) ∗ toks c)

theorem fund_tree : BI.own (ER (initOf treeCells treeToks)) ⊢ (|==> bigSep Finset.univ (G m ρ) : sProp 𝕄) := by
  have hX (Φ : GSem nD τ sig → sProp 𝕄) : bigSep treeCells Φ = bigSep Finset.univ fun c : Dev nD => bigSep Finset.univ fun k : Fin 16 => Φ (kcell (c, k)) := by
    unfold treeCells; rw [bigSep_map, bigSep_univ_prod]; rfl
  have hT : bigSep treeToks (fun x => (dutyTok ER x.1 x.2.1 x.2.2 : sProp 𝕄)) = bigSep Finset.univ fun c : Dev nD => toks c := by
    unfold treeToks; rw [bigSep_map, bigSep_univ_prod]
    exact bigSep_congr fun c _ => by unfold toks; rw [bigSep_univ_sum, bigSep_univ_sum]; rfl
  iintro HX
  imod (Rounds.fund ER (treeRd m ρ) treeCells treeToks) $$ HX with ⟨Hst, Hr, Hat, Htok⟩
  imodintro
  ihave Hst' := (Entails.of_eq (hX fun g => roundState ER (treeRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The semaphores at launch: the kernel's own and the barrier semaphore, all sixteen. -/
theorem unscoped_bar (c : Dev nD) : (unscopedSems0 c : sProp 𝕄) = semVal (barCell c) 0 := by
  unfold unscopedSems0; rw [bigSep_eq_bigSepL_of_eq [SemLoc.reg barS] (by decide) (by decide)]; rfl
theorem sems_eq (c : Dev nD) :
    (bigSep Finset.univ fun k : Fin 16 => semVal (kcell (c, k)) 0 : sProp 𝕄)
      = iprop(unscopedSems0 c ∗ Pipeline.ownSems0 (Ix := Unit) (Name := ℕ) (U := UU) (Lvl := ℕ) (Val := Elt F) (τ := τ) osem c) := by
  rw [unscoped_bar, Pipeline.ownSems0_eq_of_list c osem [0, 1, 2, 3, 4, 5, 6, 7, 8, 9, 10, 11, 12, 13, 14] (by decide) (by decide),
    bigSep_univ_eq_bigSepL [0, 1, 2, 3, 4, 5, 6, 7, 8, 9, 10, 11, 12, 13, 14, 15] (by decide) (by decide)]
  rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (treeRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems_eq (F := F) c).symm) $$ [Hos Hus]
  · isplitl [Hus] <;> iassumption
  imod (show iprop((bigSep Finset.univ fun k : Fin 16 => semVal (kcell (c, k)) 0) ∗ bigSep Finset.univ fun k : Fin 16 => roundState ER (treeRd m ρ) (kcell (c, k)) 0)
      ⊢ (|={Set.univ}=> bigSep Finset.univ fun k => iprop(∃ κ : ℕ, cellInv ER (treeRd m ρ) κ (kcell (c, k))) : sProp 𝕄) from by
        rw [← bigSep_sep']
        exact (bigSep_mono fun k _ => (Rounds.body_intro ER (treeRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Two separating conjunctions over whole types change places. -/
theorem bigSep_swap {α β : Type} [Fintype α] [Fintype β] (Φ : α → β → sProp 𝕄) :
    (bigSep Finset.univ fun a => bigSep Finset.univ fun b => Φ a b) = bigSep Finset.univ fun b => bigSep Finset.univ fun a => Φ a b := by
  rw [← bigSep_univ_prod (fun p : α × β => Φ p.1 p.2), bigSep_univ_equiv (Equiv.prodComm β α), bigSep_univ_prod]
  rfl

/-- The receive tokens dealt to the devices whose copies pay them. -/
theorem recv_around : (bigSep Finset.univ fun c : Dev nD => bigSep Finset.univ fun i : Fin 14 => (dutyTok ER (recvCell c i) 0 0 : sProp 𝕄))
    = bigSep Finset.univ fun c : Dev nD => bigSep Finset.univ fun i : Fin 14 => dutyTok ER (recvCell (tgt i c) i) 0 0 := by
  rw [bigSep_swap, bigSep_swap (fun (c : Dev nD) (i : Fin 14) => (dutyTok ER (recvCell (tgt i c) i) 0 0 : sProp 𝕄))]
  exact bigSep_congr fun i _ => bigSep_univ_equiv (tgtE i) (fun c : Dev nD => (dutyTok ER (recvCell c i) 0 0 : sProp 𝕄))

/-- All tokens dealt to the devices that pay. -/
theorem toks_around : (bigSep Finset.univ fun c : Dev nD => (toks c : sProp 𝕄)) ⊢ bigSep Finset.univ fun c : Dev nD => payToks c := by
  unfold toks payToks
  simp only [bigSep_fin3]
  rw [bigSep_sep', bigSep_sep', bigSep_sep', bigSep_sep', bigSep_sep', bigSep_sep', bigSep_sep', bigSep_sep', recv_around,
    bigSep_univ_equiv xE (fun c : Dev nD => (dutyTok ER (barCell c) 0 0 : sProp 𝕄)),
    bigSep_univ_equiv yE.symm (fun c : Dev nD => (dutyTok ER (barCell c) 0 1 : sProp 𝕄)),
    bigSep_univ_equiv zE.symm (fun c : Dev nD => (dutyTok ER (barCell c) 0 2 : sProp 𝕄))]
  iintro ⟨⟨H1, H2, H3⟩, H4, H5⟩
  isplitl [H1]; · iexact H1
  isplitl [H2]; · iexact H2
  isplitl [H3]; · iexact H3
  isplitl [H4]; · iexact H4
  iexact H5

theorem ghost_intro (K : Dev nD × Fin 16 → ℕ) (c : Dev nD) : iprop(records m ρ K ∗ linear (F := F) c) ⊢ ghost m ρ c := by
  unfold ghost; iintro H; iexists K; iexact H

theorem regroup :
    (bigSep Finset.univ fun c : Dev nD => iprop((bigSep Finset.univ fun k => iprop(∃ κ : ℕ, cellInv ER (treeRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (ghost m ρ) := by
  rw [bigSep_sep', bigSep_sep', ← bigSep_univ_prod (fun ck : Dev nD × Fin 16 => iprop(∃ κ : ℕ, cellInv ER (treeRd m ρ) κ (kcell ck))),
    bigSep_congr (s := Finset.univ) (fun (c : Dev nD) _ => bigSep_sep' Finset.univ (fun k : Fin 16 => (atPos ER (kcell (c, k)) 0 ∅ 0 : sProp 𝕄)) (fun k => reached ER (kcell (c, k)) 0)),
    bigSep_sep', ← bigSep_univ_prod (fun ck : Dev nD × Fin 16 => (reached ER (kcell ck) 0 : sProp 𝕄))]
  iintro ⟨HI, ⟨Hat, #HR⟩, Htok⟩
  ihave HK := (BI.bigSep_exists_pi Finset.univ (fun (ck : Dev nD × Fin 16) (κ : ℕ) => (cellInv ER (treeRd m ρ) κ (kcell ck) : sProp 𝕄))) $$ HI
  icases HK with ⟨%K, #HI⟩
  ihave Htk := (toks_around (F := F)) $$ Htok
  iapply (bigSep_share (P := records m ρ K) fun c _ => ghost_intro m ρ K c)
  isplitr
  · unfold records; isplitl; · iexact HI
    iexact HR
  · iapply ((Entails.of_eq (bigSep_sep' Finset.univ (fun c : Dev nD => bigSep Finset.univ fun k : Fin 16 => (atPos ER (kcell (c, k)) 0 ∅ 0 : sProp 𝕄)) payToks).symm).trans
      (bigSep_mono fun c _ => show _ ⊢ linear c from Entails.of_eq (by
        unfold linear; rw [cells_fin16, kcell_bar, kcell_send]
        rw [show (fun i : Fin 14 => (atPos ER (kcell (c, kx i)) 0 ∅ 0 : sProp 𝕄)) = fun i => atPos ER (recvCell c i) 0 ∅ 0 from
          funext fun i => by rw [kcell_recv]])))
    isplitl [Hat]; · iexact Hat
    iexact Htk

/-- The one global step: every device's cells are opened at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (ghost m ρ) :=
  ((bigSep_mono fun c _ => core_alloc m ρ c).trans (bigSep_fupd _ _)).trans (BI.fupd_mono (regroup m ρ))

/-! ### The launch credit -/

theorem bar_inj {a b : Dev nD} (h : barCell a = barCell b) : a = b := congrArg (fun g : GSem nD τ sig => g.1.1) h
theorem recv_inj {a b : Dev nD} {i j : Fin 14} (h : recvCell a i = recvCell b j) : a = b ∧ i = j := by
  refine ⟨congrArg (fun g : GSem nD τ sig => g.1.1) h, Fin.ext ?_⟩
  have := congrArg (fun g : GSem nD τ sig => semKey g.2) h
  have : 1 + (rq i).val = 1 + (rq j).val := this
  rw [rq_val, rq_val] at this; omega

theorem tally_bar (e : Dev nD ≃ Dev nD) (d c : Dev nD) :
    tallyAt (barCell (e d)) () 1 (barCell c) () = if d = e.symm c then 1 else 0 := by
  rw [tallyAt_apply]
  by_cases h : d = e.symm c
  · subst h; rw [Equiv.apply_symm_apply, if_pos ⟨rfl, rfl⟩, if_pos rfl]
  · rw [if_neg (fun ⟨h1, _⟩ => h (by rw [bar_inj h1, Equiv.symm_apply_apply])), if_neg h]

theorem Orest_bar (d c : Dev nD) : Orest d 0 (barCell c) () = 0 := by
  by_contra h
  obtain ⟨i, -, hi⟩ := Orest_pos (Nat.pos_of_ne_zero h)
  exact absurd (congrArg Prod.snd hi) (fun h => by cases h)

/-- What device `d` owes device `c`'s barrier: one unit for each axis on which it is the neighbour. -/
theorem owed_bar (d c : Dev nD) : O₀ d (barCell c) ()
    = ((if d = xE.symm c then 1 else 0) + (if d = yE c then 1 else 0)) + (if d = zE c then 1 else 0) := by
  unfold O₀ O1 O2
  rw [Pi.add_apply, Finsupp.add_apply, Pi.add_apply, Finsupp.add_apply, Pi.add_apply, Finsupp.add_apply, Orest_bar]
  have hx := tally_bar xE d c
  have hy := tally_bar yE.symm d c
  have hz := tally_bar zE.symm d c
  rw [Equiv.symm_symm] at hy hz
  have hx' : tallyAt (barCell (xp d)) () 1 (barCell c) () = if d = xE.symm c then 1 else 0 := hx
  have hy' : tallyAt (barCell (yl d)) () 1 (barCell c) () = if d = yE c then 1 else 0 := hy
  have hz' : tallyAt (barCell (zl d)) () 1 (barCell c) () = if d = zE c then 1 else 0 := hz
  rw [hx', hy', hz']
  omega

/-- What it owes the receive semaphore of exchange `i`: that exchange's credit, if it sends there. -/
theorem owed_recv (d c : Dev nD) (i : Fin 14) : O₀ d (recvCell c i) () = if d = (tgtE i).symm c then Nn i else 0 := by
  unfold O₀ O1 O2
  rw [Pi.add_apply, Finsupp.add_apply, Pi.add_apply, Finsupp.add_apply, Pi.add_apply, Finsupp.add_apply,
    tallyAt_ne_cell (fun h => by cases congrArg Prod.snd h), tallyAt_ne_cell (fun h => by cases congrArg Prod.snd h),
    tallyAt_ne_cell (fun h => by cases congrArg Prod.snd h), Finsupp.zero_apply, Nat.add_zero, Nat.add_zero, Nat.add_zero, Orest_apply,
    Finset.sum_eq_single i]
  · rw [tallyAt_apply]
    by_cases h : d = (tgtE i).symm c
    · subst h; rw [tgt, Equiv.apply_symm_apply, if_pos ⟨rfl, rfl⟩, if_pos rfl]
    · rw [if_neg (fun ⟨h1, _⟩ => h (by rw [(recv_inj h1).1, Equiv.symm_apply_apply])), if_neg h]
  · intro j _ hj
    rw [tallyAt_apply, if_neg (fun ⟨h1, _⟩ => hj (recv_inj h1).2.symm)]
  · intro h; exact absurd (Finset.mem_filter.mpr ⟨Finset.mem_univ i, Nat.zero_le _⟩) h

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (xE.symm c) fun _ => 1, Finset.sum_ite_eq' Finset.univ (yE c) fun _ => 1, Finset.sum_ite_eq' Finset.univ (zE c) fun _ => 1,
    if_pos (Finset.mem_univ _), if_pos (Finset.mem_univ _), if_pos (Finset.mem_univ _)]

theorem launch_recv (c : Dev nD) (i : Fin 14) :
    tallyOn (recvCell c i) (launchCredit (Pipeline.owing O₀) 0 (recvCell c i)) = (tallyAt (recvCell c i) () (Nn i) : CellTallies nD τ sig Unit) := by
  unfold tallyAt; refine congrArg _ (Finsupp.ext fun u => ?_); cases u
  rw [Pipeline.launchCredit_owing, Finsupp.single_eq_same, Finset.sum_congr rfl fun d _ => owed_recv d c i,
    Finset.sum_ite_eq' Finset.univ ((tgtE i).symm c) fun _ => Nn i, if_pos (Finset.mem_univ _)]

def recvSem (i : Fin 14) : SemLoc sig := .dma (rq i)
theorem recvSem_injective : Function.Injective recvSem := by decide

theorem recvSem_ne : ∀ i : Fin 14, recvSem i ≠ SemLoc.reg barS := by decide

theorem creds (c : Dev nD) :
    (Pipeline.launchCred O₀ c : sProp 𝕄)
      ⊢ iprop(cred (tallyAt (barCell c) () 3) ∗ bigSep Finset.univ fun i : Fin 14 => cred (tallyAt (recvCell c i) () (Nn i))) := by
  unfold Pipeline.launchCred
  rw [bigSep_univ_at _ (SemLoc.reg barS), launch_bar]
  refine sep_mono_right ?_
  refine (bigSep_subset (t := Finset.univ.map ⟨recvSem, recvSem_injective⟩) fun x hx => ?_).trans ?_
  · obtain ⟨i, -, rfl⟩ := Finset.mem_map.mp hx
    exact Finset.mem_erase.mpr ⟨recvSem_ne i, Finset.mem_univ _⟩
  · rw [bigSep_map]
    exact bigSep_mono fun i _ => Entails.of_eq (congrArg (fun t => (cred t : sProp 𝕄)) (launch_recv c i))

/-! ### The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ bufs bxA byA bzA
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq]
  unfold Φ₁ bufs bxA byA bzA
  rw [sems_eq]
  iintro ⟨Hr, Hu, Ho⟩
  isplitl [Hu]; · iexact Hu
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

/-- Every device's result array holds the full sum, and `x` is what it was. -/
def Final (m : (ℓ : Loc nD τ sig) → Buf (Elt F) ℓ) (ρ : Dev nD → PrngReg) (s : MemSt nD τ sig (Elt F)) : Prop :=
  ∀ c : Dev nD, s.mem ((c.tc : Thread nD τ).loc main_v1) = R m ρ ∧ s.mem ((c.tc : Thread nD τ).loc main_arg0) = m ((c.tc : Thread nD τ).loc main_arg0)

theorem final_x (c : Dev nD) : (dats m ρ 0 c).arrAt (0 : Fin 2) cfg0.N = m ((c.tc : Thread nD τ).loc main_arg0) :=
  (dats (F := F) m ρ 0 c).arrAt_in (0 : Fin 2) rfl _

theorem final_out (c : Dev nD) : (dats m ρ 0 c).arrAt (1 : Fin 2) cfg0.N = R m ρ :=
  (dats (F := F) m ρ 0 c).arrAt_eq_of_after_last (1 : Fin 2) t0_0 (by decide +kernel) (R m ρ) (fun _ => rfl) (Memref.isWhole_whole _)

set_option maxRecDepth 8000 in
/-- From any memory with zero counters every weakly fair execution ends, with the full sum in every device's result
    array, `x` as it was and every semaphore counter at zero. -/
theorem run_main : θ_run defs (onTc (τ := τ) (main (F := F))) (s₀ m ρ) (fun r => Final m ρ r.2 ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := ghost m ρ) (u₀ := u₀)
    (hu₀ := by
      unfold u₀
      iintro Hu
      ihave H := (ownU_pair _ _) $$ Hu
      icases H with ⟨HP, HX⟩
      imod (fund_tree m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c => ⟨((h c).1 (1 : Fin 2)).trans (final_out m ρ c), ((h c).1 (0 : Fin 2)).trans (final_x m ρ c)⟩,
      sem_eq_zero hs fun c => (h c).2.2⟩)

end Cert.TreeProof
-- ==== Proof.Value.lean ====
/-
# The value

At exact real arithmetic the nested sums the devices build are the sum over all devices, whichever device built
them, and that is what the reference computes.
-/
module

public import proofs.«01_k».proof.Proof.Launch
public import proofs.«01_k».proof.Proof.Gen.ReferenceIdeal.Run
public import Idealize.ShloMosaic.Lib.IdealHost
public import Idealize.ShloMosaic.Lib.ValueLayout
public import Idealize.ShloMosaic.Lib.LayoutAt
public import Idealize.ShloMosaic.Lib.Pointwise.Reduce

@[expose] public section

noncomputable section

namespace Cert.TreeProof

open Cert.KernelIdeal Cert.KernelIdeal.Gen

open Idealize.ShloMosaic
open Idealize.ShloMosaic.TcCoe
open Idealize.SL Idealize.SL.Sem

/-! ## The nested sums -/

/-- The device reached from `d` by `s.1` steps along the third axis, `s.2.1` along the second and `s.2.2` along the
    first. -/
def path (d : Dev nD) (s : Fin 4 × Fin 4 × Fin 2) : Dev nD := xp^[s.2.2.val] (yl^[s.2.1.val] (zl^[s.1.val] d))

/-- Every device is reached in exactly one way. -/
theorem path_bijective (d : Dev nD) : Function.Bijective (path d) := by
  revert d; decide +kernel

theorem sum_paths (f : Dev nD → EReal) (d : Dev nD) : ∑ z : Fin 4, ∑ y : Fin 4, ∑ x : Fin 2, f (path d (z, y, x)) = ∑ c, f c := by
  rw [← (path_bijective d).sum_comp f, Fintype.sum_prod_type]
  exact Finset.sum_congr rfl fun z _ => by rw [Fintype.sum_prod_type]

variable (m : (ℓ : Loc nD τ sig) → Buf (Elt Ideal) ℓ) (ρ : Dev nD → PrngReg)

theorem V1_ideal (c : Dev nD) (j : S2048x1024.Idx) : V1 m ρ c j = (X m ρ c j + X m ρ (xp c) j : EReal) := rfl
theorem YS_ideal (s : ℕ) (c : Dev nD) (j : S2048x1024.Idx) : YS m ρ (s + 1) c j = (V1 m ρ c j + YS m ρ s (yl c) j : EReal) := rfl
theorem ZS_ideal (s : ℕ) (c : Dev nD) (j : S2048x1024.Idx) : ZS m ρ (s + 1) c j = (YS m ρ 3 c j + ZS m ρ s (zl c) j : EReal) := rfl

theorem V1_sum (c : Dev nD) (j : S2048x1024.Idx) : V1 m ρ c j = (∑ x : Fin 2, (X m ρ (xp^[x.val] c) j : EReal) : EReal) := by
  rw [Fin.sum_univ_two]; rfl
theorem YS_sum (c : Dev nD) (j : S2048x1024.Idx) : YS m ρ 3 c j = (∑ y : Fin 4, (V1 m ρ (yl^[y.val] c) j : EReal) : EReal) := by
  rw [Fin.sum_univ_four, YS_ideal, YS_ideal, YS_ideal, ← add_assoc, ← add_assoc]; rfl
theorem ZS_sum (c : Dev nD) (j : S2048x1024.Idx) : ZS m ρ 3 c j = (∑ z : Fin 4, (YS m ρ 3 (zl^[z.val] c) j : EReal) : EReal) := by
  rw [Fin.sum_univ_four, ZS_ideal, ZS_ideal, ZS_ideal, ← add_assoc, ← add_assoc]; rfl

/-- The result is the sum over all devices. -/
theorem R_sum (j : S2048x1024.Idx) : R m ρ j = (∑ c : Dev nD, (X m ρ c j : EReal) : EReal) := by
  unfold R
  rw [ZS_sum, ← sum_paths (fun c => (X m ρ c j : EReal)) (owner j)]
  exact Finset.sum_congr rfl fun z _ => (YS_sum m ρ _ j).trans (Finset.sum_congr rfl fun y _ => V1_sum m ρ _ j)

/-! ## The blocks of `x` -/

/-- The staged copy of a device's block is the block. -/
theorem xstg_eq (c : Dev nD) : xstg m ρ c = m ((c.tc : Thread nD τ).loc main_arg0) :=
  Memref.read_access_unit_zero (Elt Ideal) main_arg0 (funext fun a => by fin_cases a <;> rfl) _ _

/-- An element of a device's working array is that element of its block. -/
theorem X_apply (c : Dev nD) (j : S2048x1024.Idx) :
    X m ρ c j = m ((c.tc : Thread nD τ).loc main_arg0) (ix3 (0 : Fin 1) (j 0) (j 1)) := by
  rw [← xstg_eq m ρ c]
  unfold X k0_pay1
  conv_lhs => rw [eq_ix2 j]
  exact (ValueIdx.shapeCast_1ab_ab_apply _ _ (j 0) (j 1)).trans (congrArg _ (funext fun a => by fin_cases a <;> rfl))

/-- With the devices holding the blocks of `x`, the result of the kernel is that of the reference. -/
theorem R_reference (x : (⟨3, ![32, 2048, 1024]⟩ : Shape).Idx → Ideal .f32)
    (hx : ∀ c : Dev nD, m ((c.tc : Thread nD τ).loc main_arg0) = Layout.block ⟨3, ![1, 2048, 1024]⟩ ⟨3, ![32, 2048, 1024]⟩ 0 32 c x) :
    R m ρ = Host.reduceAdd x (constant Cert.ReferenceIdeal.S_ .f32 0x00000000#32)
      Cert.ReferenceIdeal.Gen.reducesTo_S32x2048x1024_S2048x1024_d0 Cert.ReferenceIdeal.Gen.h_S_ := by
  funext j
  rw [ValueIdx.hostReduceAdd_apply, R_sum, Ideal.hostReduceAdd_r3_a0]
  rw [show constant (F := Ideal) Cert.ReferenceIdeal.S_ .f32 0x00000000#32 (Shape.Idx.first Cert.ReferenceIdeal.Gen.h_S_) = (0 : EReal) from Ideal.ofBits_zero_f32, zero_add]
  refine Finset.sum_congr rfl fun c _ => ?_
  rw [X_apply, hx c, Layout.block_apply]
  congr 1
  funext a
  apply Fin.ext
  fin_cases a <;> rw [Layout.Tiles.idx_val] <;> simp <;> rfl

end Cert.TreeProof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel over any float values: it terminates without fault, leaves `x` as it was and every semaphore at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0))
      ∧ r.2.sem = fun _ => 0) :=
  (θ_run Cert.KernelIdeal.defs _ _).mono (fun _ h => ⟨fun c => (h.1 c).2, h.2⟩) (Cert.TreeProof.run_main (F := F) m ρ)

/-- The two printed programs have the same text, so their kernel bodies are one. -/
theorem bodies_eq : Cert.Kernel.defs₀ (F := Bits) = Cert.KernelIdeal.defs₀ (F := Bits) := by
  refine congrArg Defs.onTc (funext fun l => funext fun x => ?_)
  match l, x with
  | 0, (_, _) => exact rfl
  | ⟨_ + 1, h⟩, _ => exact absurd h (Nat.not_lt.2 (Nat.le_add_left _ _))

/-- Hence so are their tables of bodies and pipelines. -/
theorem defs_eq : Cert.Kernel.defs (F := Bits) = Cert.KernelIdeal.defs (F := Bits) :=
  congrArg (Pipeline.defs (Cert.KernelIdeal.pcfgs (F := Bits))) bodies_eq

/-- The kernel at machine floats. -/
theorem frame_kernel : Cert.quiescent_Kernel := fun m ρ _ =>
  (congrArg (fun D => θ_run D (onTc (τ := Cert.Kernel.τ) (Cert.Kernel.main (F := Bits))) ⟨m, fun _ => 0, ρ⟩ (fun r =>
    (∀ c : Dev Cert.Kernel.nD, r.2.mem ((c.tc : Thread Cert.Kernel.nD Cert.Kernel.τ).loc Cert.Kernel.main_arg0)
      = m ((c.tc : Thread Cert.Kernel.nD Cert.Kernel.τ).loc Cert.Kernel.main_arg0)) ∧ r.2.sem = fun _ => 0)) defs_eq).mpr
    (frame_any (F := Bits) m ρ)

/-- The kernel over the extended reals. -/
theorem frame_ideal : Cert.quiescent_KernelIdeal := fun m ρ _ => frame_any (F := Ideal) m ρ

/-- The same of the reference. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run m ρ)

/-- Every device's result is the reference's sum of the 32 blocks. -/
theorem algebraic : Cert.algebraic_KernelIdeal_ReferenceIdeal := fun m ρ m' ρ' _ hx =>
  ⟨_, (θ_run Cert.KernelIdeal.defs _ _).mono
      (fun _ h c => ⟨((h.1 c).1).trans (Cert.TreeProof.R_reference m ρ _ hx), (h.1 c).2⟩)
      (Cert.TreeProof.run_main (F := Ideal) m ρ),
    (θ_run Cert.ReferenceIdeal.defs _ _).mono (fun _ h => h 0) (Cert.ReferenceIdeal.Value.run m' ρ')⟩

theorem claim : Cert.Claim := ⟨Cert.Kernel.Gen.facts, Cert.KernelIdeal.Gen.facts, Cert.ReferenceIdeal.Gen.facts,
  frame_kernel, frame_ideal, frame_reference, trivial, algebraic⟩

end Cert.Proof

end
